-- ==== Defs.lean ====
def Pre_Kernel [hPre_labels_in_range : Cert.Pre_labels_in_range.Facts] (m : (ℓ : Loc Cert.Kernel.nD Cert.Kernel.τ Cert.Kernel.sig) → Buf (Elt Bits) ℓ) : Prop :=
  ∀ c : Dev Cert.Kernel.nD,
    (Cert.Pre_labels_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_labels_in_range : Cert.Pre_labels_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_labels_in_range_finite_logits [hPre_labels_in_range_finite_logits : Cert.Pre_labels_in_range_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_range_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_in_range_finite_logits [hPre_labels_in_range_finite_logits : Cert.Pre_labels_in_range_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_in_range_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_labels_in_range : Cert.Pre_labels_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_labels_in_range_finite_logits [hKernelIdeal : Cert.KernelIdeal.Facts] [hPre_labels_in_range_finite_logits : Cert.Pre_labels_in_range_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_in_range_finite_logits m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_labels_in_range_finite_logits [hReferenceIdeal : Cert.ReferenceIdeal.Facts] [hPre_labels_in_range_finite_logits : Cert.Pre_labels_in_range_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_in_range_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_labels_in_range_finite_logits [hKernelIdeal : Cert.KernelIdeal.Facts] [hReferenceIdeal : Cert.ReferenceIdeal.Facts] [hPre_labels_in_range_finite_logits : Cert.Pre_labels_in_range_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels_in_range_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_labels_in_range : Cert.Pre_labels_in_range.Facts) (hPre_labels_in_range_finite_logits : Cert.Pre_labels_in_range_finite_logits.Facts),
    quiescent_Kernel (hKernel := hKernel) (hPre_labels_in_range := hPre_labels_in_range)
    ∧ quiescent_KernelIdeal (hKernelIdeal := hKernelIdeal) (hPre_labels_in_range := hPre_labels_in_range)
    ∧ quiescent_KernelIdeal_pre_labels_in_range_finite_logits (hKernelIdeal := hKernelIdeal) (hPre_labels_in_range_finite_logits := hPre_labels_in_range_finite_logits)
    ∧ quiescent_ReferenceIdeal (hReferenceIdeal := hReferenceIdeal)
    ∧ quiescent_ReferenceIdeal_pre_labels_in_range_finite_logits (hReferenceIdeal := hReferenceIdeal) (hPre_labels_in_range_finite_logits := hPre_labels_in_range_finite_logits)
    ∧ preserves_Kernel_KernelIdeal
    ∧ algebraic_KernelIdeal_ReferenceIdeal_pre_labels_in_range_finite_logits (hKernelIdeal := hKernelIdeal) (hReferenceIdeal := hReferenceIdeal) (hPre_labels_in_range_finite_logits := hPre_labels_in_range_finite_logits)
-- ==== Pre_labels_in_range.lean ====
abbrev S16384x128 : Shape := ⟨2, ![16384, 128]⟩
abbrev S16384x1000 : Shape := ⟨2, ![16384, 1000]⟩
abbrev S16384 : Shape := ⟨1, ![16384]⟩
abbrev S1000x128 : Shape := ⟨2, ![1000, 128]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S16384x128 .f32) (main_arg1 : FVec F S16384x1000 .f32) (main_arg2 : IVec S16384 32) (main_arg3 : FVec F S1000x128 .f32) : IVec S_ 1 :=
  let main_c : IVec S_ 32 := constantI S_ 32 0#32
  let main_v0 : IVec S16384 32 := broadcastInDim S16384 ![] bcast_S_S16384 main_c
  let main_v1 : IVec S16384 1 := cmpi .sge main_arg2 main_v0
  let main_c_0 : IVec S_ 32 := constantI S_ 32 1000#32
  let main_v2 : IVec S16384 32 := broadcastInDim S16384 ![] bcast_S_S16384 main_c_0
  let main_v3 : IVec S16384 1 := cmpi .slt main_arg2 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Pre_labels_in_range_finite_logits.lean ====
abbrev S16384x128 : Shape := ⟨2, ![16384, 128]⟩
abbrev S16384x1000 : Shape := ⟨2, ![16384, 1000]⟩
abbrev S16384 : Shape := ⟨1, ![16384]⟩
abbrev S1000x128 : Shape := ⟨2, ![1000, 128]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel
  bcast_S_S16384x1000 : S_.BroadcastsInDim S16384x1000 (![] : Fin 0 → Fin S16384x1000.rank)
  reducesTo_S16384x1000_S_d0_1 : S16384x1000.ReducesTo [0, 1] S_

variable [Facts]

def fn {F : FTy → Type} [FloatOps F] (main_arg0 : FVec F S16384x128 .f32) (main_arg1 : FVec F S16384x1000 .f32) (main_arg2 : IVec S16384 32) (main_arg3 : FVec F S1000x128 .f32) : IVec S_ 1 :=
  let main_c : IVec S_ 32 := constantI S_ 32 0#32
  let main_v0 : IVec S16384 32 := broadcastInDim S16384 ![] bcast_S_S16384 main_c
  let main_v1 : IVec S16384 1 := cmpi .sge main_arg2 main_v0
  let main_c_0 : IVec S_ 32 := constantI S_ 32 1000#32
  let main_v2 : IVec S16384 32 := broadcastInDim S16384 ![] bcast_S_S16384 main_c_0
  let main_v3 : IVec S16384 1 := cmpi .slt main_arg2 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  let main_v6 : FVec F S16384x1000 .f32 := Host.absf main_arg1
  let main_cst : FVec F S_ .f32 := constant S_ .f32 0x7F800000#32
  let main_v7 : FVec F S16384x1000 .f32 := broadcastInDim S16384x1000 ![] bcast_S_S16384x1000 main_cst
  let main_v8 : IVec S16384x1000 1 := cmpf .olt main_v6 main_v7
  let main_c_2 : IVec S_ 1 := constantI S_ 1 1#1
  let main_v9 : IVec S_ 1 := (fun x v => Host.reduce IntOp.andi x v reducesTo_S16384x1000_S_d0_1 h_S_) main_v8 main_c_2
  let main_v10 : IVec S_ 1 := andi main_v5 main_v9
  main_v10
-- ==== Kernel.lean ====
abbrev S16384x128 : Shape := ⟨2, ![16384, 128]⟩
abbrev S16384x1000 : Shape := ⟨2, ![16384, 1000]⟩
abbrev S16384 : Shape := ⟨1, ![16384]⟩
abbrev S1000x128 : Shape := ⟨2, ![1000, 128]⟩
abbrev S1000x16384 : Shape := ⟨2, ![1000, 16384]⟩
abbrev S32x16 : Shape := ⟨2, ![32, 16]⟩
abbrev S512 : Shape := ⟨1, ![512]⟩
abbrev S128x256 : Shape := ⟨2, ![128, 256]⟩
abbrev S64x128 : Shape := ⟨2, ![64, 128]⟩
abbrev S16 : Shape := ⟨1, ![16]⟩
abbrev S_ : Shape := ⟨0, ![]⟩
abbrev S104x256 : Shape := ⟨2, ![104, 256]⟩
abbrev S64 : Shape := ⟨1, ![64]⟩
abbrev S1x16 : Shape := ⟨2, ![1, 16]⟩
abbrev S1x16384 : Shape := ⟨2, ![1, 16384]⟩
abbrev S896x2048 : Shape := ⟨2, ![896, 2048]⟩
abbrev S1x2048 : Shape := ⟨2, ![1, 2048]⟩
abbrev S2048 : Shape := ⟨1, ![2048]⟩

abbrev nBuf : Table → Nat
  | .hbm => 15
  | .local .tc .vmem => 6
  | .local .scVector .vmem => 8
  | _ => 0

abbrev bufTy : (tb : Table) → Fin (nBuf tb) → BufTy
  | .hbm, ⟨0, _⟩ => ⟨S16384x128, .f32⟩
  | .hbm, ⟨1, _⟩ => ⟨S16384x1000, .f32⟩
  | .hbm, ⟨2, _⟩ => ⟨S16384, .i32⟩
  | .hbm, ⟨3, _⟩ => ⟨S1000x128, .f32⟩
  | .hbm, ⟨4, _⟩ => ⟨S1000x16384, .f32⟩
  | .hbm, ⟨5, _⟩ => ⟨S32x16, .f32⟩
  | .hbm, ⟨6, _⟩ => ⟨S1x16384, .i32⟩
  | .hbm, ⟨7, _⟩ => ⟨S1x16384, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local .tc .vmem, ⟨0, _⟩ => ⟨S896x2048, .f32⟩
  | .local .tc .vmem, ⟨1, _⟩ => ⟨S896x2048, .f32⟩
  | .local .tc .vmem, ⟨2, _⟩ => ⟨S1x2048, .i32⟩
  | .local .tc .vmem, ⟨3, _⟩ => ⟨S1x2048, .i32⟩
  | .local .tc .vmem, ⟨4, _⟩ => ⟨S1x2048, .f32⟩
  | .local .tc .vmem, ⟨5, _⟩ => ⟨S1x2048, .f32⟩
  | .local .scVector .vmem, ⟨0, _⟩ => ⟨S512, .i32⟩
  | .local .scVector .vmem, ⟨1, _⟩ => ⟨S128x256, .f32⟩
  | .local .scVector .vmem, ⟨2, _⟩ => ⟨S128x256, .f32⟩
  | .local .scVector .vmem, ⟨3, _⟩ => ⟨S64x128, .f32⟩
  | .local .scVector .vmem, ⟨4, _⟩ => ⟨S64x128, .f32⟩
  | .local .scVector .vmem, ⟨5, _⟩ => ⟨S64x128, .f32⟩
  | .local .scVector .vmem, ⟨6, _⟩ => ⟨S64x128, .f32⟩
  | .local .scVector .vmem, ⟨7, _⟩ => ⟨S16, .f32⟩
  | _, _ => ⟨S16384x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => true
  | ⟨9, _⟩ => true
  | ⟨10, _⟩ => true
  | ⟨11, _⟩ => true
  | ⟨12, _⟩ => true
  | ⟨13, _⟩ => true
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_arg0_scv : Ref sig .scVector := ⟨.hbm, 0, rfl⟩
abbrev main_v0_scv : Ref sig .scVector := ⟨.hbm, 4, rfl⟩
abbrev main_arg2_scv : Ref sig .scVector := ⟨.hbm, 2, rfl⟩
abbrev main_arg3_scv : Ref sig .scVector := ⟨.hbm, 3, rfl⟩
abbrev main_v1_scv : Ref sig .scVector := ⟨.hbm, 5, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (i : grid0.Coords) (c0_i32 : BitVec 32) : Fin 2 → Nat :=
  let c896_i32 : BitVec 32 := 896#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v4 : BitVec 32 := Scalar.addi v2 c0_i32
  ![896, v4.toNat]

def k0_chk1 (v29 : IVec S16 32) (v31 : IVec S16 32) : Prop :=
  (∀ a x, ((![v29, v31] : Fin 2 → IVec S16 32) a x).toNat < S128x256.size a)
theorem k0_idx1_inb : ∀ (v29 : IVec S16 32) (v31 : IVec S16 32) (k0_hw1 : k0_chk1 v29 v31), ∀ a x, ((![v29, v31] : Fin 2 → IVec S16 32) a x).toNat < S128x256.size a := fun v29 v31 k0_hw1 => k0_hw1

def k0_chk2 (v45 : IVec S16 32) (v47 : IVec S16 32) : Prop :=
  (∀ a x, ((![v45, v47] : Fin 2 → IVec S16 32) a x).toNat < S128x256.size a)
theorem k0_idx2_inb : ∀ (v45 : IVec S16 32) (v47 : IVec S16 32) (k0_hw2 : k0_chk2 v45 v47), ∀ a x, ((![v45, v47] : Fin 2 → IVec S16 32) a x).toNat < S128x256.size a := fun v45 v47 k0_hw2 => k0_hw2

def k0_chk3 (v61 : IVec S16 32) (v63 : IVec S16 32) : Prop :=
  (∀ a x, ((![v61, v63] : Fin 2 → IVec S16 32) a x).toNat < S128x256.size a)
theorem k0_idx3_inb : ∀ (v61 : IVec S16 32) (v63 : IVec S16 32) (k0_hw3 : k0_chk3 v61 v63), ∀ a x, ((![v61, v63] : Fin 2 → IVec S16 32) a x).toNat < S128x256.size a := fun v61 v63 k0_hw3 => k0_hw3

def k0_chk4 (v77 : IVec S16 32) (v79 : IVec S16 32) : Prop :=
  (∀ a x, ((![v77, v79] : Fin 2 → IVec S16 32) a x).toNat < S128x256.size a)
theorem k0_idx4_inb : ∀ (v77 : IVec S16 32) (v79 : IVec S16 32) (k0_hw4 : k0_chk4 v77 v79), ∀ a x, ((![v77, v79] : Fin 2 → IVec S16 32) a x).toNat < S128x256.size a := fun v77 v79 k0_hw4 => k0_hw4

def k0_chk5 (v93 : IVec S16 32) (v95 : IVec S16 32) : Prop :=
  (∀ a x, ((![v93, v95] : Fin 2 → IVec S16 32) a x).toNat < S128x256.size a)
theorem k0_idx5_inb : ∀ (v93 : IVec S16 32) (v95 : IVec S16 32) (k0_hw5 : k0_chk5 v93 v95), ∀ a x, ((![v93, v95] : Fin 2 → IVec S16 32) a x).toNat < S128x256.size a := fun v93 v95 k0_hw5 => k0_hw5

def k0_chk6 (v109 : IVec S16 32) (v111 : IVec S16 32) : Prop :=
  (∀ a x, ((![v109, v111] : Fin 2 → IVec S16 32) a x).toNat < S128x256.size a)
theorem k0_idx6_inb : ∀ (v109 : IVec S16 32) (v111 : IVec S16 32) (k0_hw6 : k0_chk6 v109 v111), ∀ a x, ((![v109, v111] : Fin 2 → IVec S16 32) a x).toNat < S128x256.size a := fun v109 v111 k0_hw6 => k0_hw6

def k0_chk7 (v125 : IVec S16 32) (v127 : IVec S16 32) : Prop :=
  (∀ a x, ((![v125, v127] : Fin 2 → IVec S16 32) a x).toNat < S128x256.size a)
theorem k0_idx7_inb : ∀ (v125 : IVec S16 32) (v127 : IVec S16 32) (k0_hw7 : k0_chk7 v125 v127), ∀ a x, ((![v125, v127] : Fin 2 → IVec S16 32) a x).toNat < S128x256.size a := fun v125 v127 k0_hw7 => k0_hw7

def k0_chk8 (v141 : IVec S16 32) (v143 : IVec S16 32) : Prop :=
  (∀ a x, ((![v141, v143] : Fin 2 → IVec S16 32) a x).toNat < S128x256.size a)
theorem k0_idx8_inb : ∀ (v141 : IVec S16 32) (v143 : IVec S16 32) (k0_hw8 : k0_chk8 v141 v143), ∀ a x, ((![v141, v143] : Fin 2 → IVec S16 32) a x).toNat < S128x256.size a := fun v141 v143 k0_hw8 => k0_hw8

def k0_chk9 (v157 : IVec S16 32) (v159 : IVec S16 32) : Prop :=
  (∀ a x, ((![v157, v159] : Fin 2 → IVec S16 32) a x).toNat < S128x256.size a)
theorem k0_idx9_inb : ∀ (v157 : IVec S16 32) (v159 : IVec S16 32) (k0_hw9 : k0_chk9 v157 v159), ∀ a x, ((![v157, v159] : Fin 2 → IVec S16 32) a x).toNat < S128x256.size a := fun v157 v159 k0_hw9 => k0_hw9

def k0_chk10 (v173 : IVec S16 32) (v175 : IVec S16 32) : Prop :=
  (∀ a x, ((![v173, v175] : Fin 2 → IVec S16 32) a x).toNat < S128x256.size a)
theorem k0_idx10_inb : ∀ (v173 : IVec S16 32) (v175 : IVec S16 32) (k0_hw10 : k0_chk10 v173 v175), ∀ a x, ((![v173, v175] : Fin 2 → IVec S16 32) a x).toNat < S128x256.size a := fun v173 v175 k0_hw10 => k0_hw10

def k0_chk11 (v189 : IVec S16 32) (v191 : IVec S16 32) : Prop :=
  (∀ a x, ((![v189, v191] : Fin 2 → IVec S16 32) a x).toNat < S128x256.size a)
theorem k0_idx11_inb : ∀ (v189 : IVec S16 32) (v191 : IVec S16 32) (k0_hw11 : k0_chk11 v189 v191), ∀ a x, ((![v189, v191] : Fin 2 → IVec S16 32) a x).toNat < S128x256.size a := fun v189 v191 k0_hw11 => k0_hw11

def k0_chk12 (v205 : IVec S16 32) (v207 : IVec S16 32) : Prop :=
  (∀ a x, ((![v205, v207] : Fin 2 → IVec S16 32) a x).toNat < S128x256.size a)
theorem k0_idx12_inb : ∀ (v205 : IVec S16 32) (v207 : IVec S16 32) (k0_hw12 : k0_chk12 v205 v207), ∀ a x, ((![v205, v207] : Fin 2 → IVec S16 32) a x).toNat < S128x256.size a := fun v205 v207 k0_hw12 => k0_hw12

def k0_chk13 (v221 : IVec S16 32) (v223 : IVec S16 32) : Prop :=
  (∀ a x, ((![v221, v223] : Fin 2 → IVec S16 32) a x).toNat < S128x256.size a)
theorem k0_idx13_inb : ∀ (v221 : IVec S16 32) (v223 : IVec S16 32) (k0_hw13 : k0_chk13 v221 v223), ∀ a x, ((![v221, v223] : Fin 2 → IVec S16 32) a x).toNat < S128x256.size a := fun v221 v223 k0_hw13 => k0_hw13

def k0_chk14 (v237 : IVec S16 32) (v239 : IVec S16 32) : Prop :=
  (∀ a x, ((![v237, v239] : Fin 2 → IVec S16 32) a x).toNat < S128x256.size a)
theorem k0_idx14_inb : ∀ (v237 : IVec S16 32) (v239 : IVec S16 32) (k0_hw14 : k0_chk14 v237 v239), ∀ a x, ((![v237, v239] : Fin 2 → IVec S16 32) a x).toNat < S128x256.size a := fun v237 v239 k0_hw14 => k0_hw14

def k0_chk15 (v253 : IVec S16 32) (v255 : IVec S16 32) : Prop :=
  (∀ a x, ((![v253, v255] : Fin 2 → IVec S16 32) a x).toNat < S128x256.size a)
theorem k0_idx15_inb : ∀ (v253 : IVec S16 32) (v255 : IVec S16 32) (k0_hw15 : k0_chk15 v253 v255), ∀ a x, ((![v253, v255] : Fin 2 → IVec S16 32) a x).toNat < S128x256.size a := fun v253 v255 k0_hw15 => k0_hw15

def k0_chk16 (v269 : IVec S16 32) (v271 : IVec S16 32) : Prop :=
  (∀ a x, ((![v269, v271] : Fin 2 → IVec S16 32) a x).toNat < S128x256.size a)
theorem k0_idx16_inb : ∀ (v269 : IVec S16 32) (v271 : IVec S16 32) (k0_hw16 : k0_chk16 v269 v271), ∀ a x, ((![v269, v271] : Fin 2 → IVec S16 32) a x).toNat < S128x256.size a := fun v269 v271 k0_hw16 => k0_hw16
def k0_off3 (i : grid0.Coords) : Fin 2 → Nat :=
  let c896_i32_101 : BitVec 32 := 896#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c256_i32_98 : BitVec 32 := 256#32
  let v276 : BitVec 32 := Scalar.addi v2 c256_i32_98
  ![896, v276.toNat]

def k0_chk17 (v290 : IVec S16 32) (v292 : IVec S16 32) : Prop :=
  (∀ a x, ((![v290, v292] : Fin 2 → IVec S16 32) a x).toNat < S128x256.size a)
theorem k0_idx17_inb : ∀ (v290 : IVec S16 32) (v292 : IVec S16 32) (k0_hw17 : k0_chk17 v290 v292), ∀ a x, ((![v290, v292] : Fin 2 → IVec S16 32) a x).toNat < S128x256.size a := fun v290 v292 k0_hw17 => k0_hw17

def k0_chk18 (v306 : IVec S16 32) (v308 : IVec S16 32) : Prop :=
  (∀ a x, ((![v306, v308] : Fin 2 → IVec S16 32) a x).toNat < S128x256.size a)
theorem k0_idx18_inb : ∀ (v306 : IVec S16 32) (v308 : IVec S16 32) (k0_hw18 : k0_chk18 v306 v308), ∀ a x, ((![v306, v308] : Fin 2 → IVec S16 32) a x).toNat < S128x256.size a := fun v306 v308 k0_hw18 => k0_hw18

def k0_chk19 (v322 : IVec S16 32) (v324 : IVec S16 32) : Prop :=
  (∀ a x, ((![v322, v324] : Fin 2 → IVec S16 32) a x).toNat < S128x256.size a)
theorem k0_idx19_inb : ∀ (v322 : IVec S16 32) (v324 : IVec S16 32) (k0_hw19 : k0_chk19 v322 v324), ∀ a x, ((![v322, v324] : Fin 2 → IVec S16 32) a x).toNat < S128x256.size a := fun v322 v324 k0_hw19 => k0_hw19

def k0_chk20 (v338 : IVec S16 32) (v340 : IVec S16 32) : Prop :=
  (∀ a x, ((![v338, v340] : Fin 2 → IVec S16 32) a x).toNat < S128x256.size a)
theorem k0_idx20_inb : ∀ (v338 : IVec S16 32) (v340 : IVec S16 32) (k0_hw20 : k0_chk20 v338 v340), ∀ a x, ((![v338, v340] : Fin 2 → IVec S16 32) a x).toNat < S128x256.size a := fun v338 v340 k0_hw20 => k0_hw20

def k0_chk21 (v354 : IVec S16 32) (v356 : IVec S16 32) : Prop :=
  (∀ a x, ((![v354, v356] : Fin 2 → IVec S16 32) a x).toNat < S128x256.size a)
theorem k0_idx21_inb : ∀ (v354 : IVec S16 32) (v356 : IVec S16 32) (k0_hw21 : k0_chk21 v354 v356), ∀ a x, ((![v354, v356] : Fin 2 → IVec S16 32) a x).toNat < S128x256.size a := fun v354 v356 k0_hw21 => k0_hw21

def k0_chk22 (v370 : IVec S16 32) (v372 : IVec S16 32) : Prop :=
  (∀ a x, ((![v370, v372] : Fin 2 → IVec S16 32) a x).toNat < S128x256.size a)
theorem k0_idx22_inb : ∀ (v370 : IVec S16 32) (v372 : IVec S16 32) (k0_hw22 : k0_chk22 v370 v372), ∀ a x, ((![v370, v372] : Fin 2 → IVec S16 32) a x).toNat < S128x256.size a := fun v370 v372 k0_hw22 => k0_hw22

def k0_chk23 (v386 : IVec S16 32) (v388 : IVec S16 32) : Prop :=
  (∀ a x, ((![v386, v388] : Fin 2 → IVec S16 32) a x).toNat < S128x256.size a)
theorem k0_idx23_inb : ∀ (v386 : IVec S16 32) (v388 : IVec S16 32) (k0_hw23 : k0_chk23 v386 v388), ∀ a x, ((![v386, v388] : Fin 2 → IVec S16 32) a x).toNat < S128x256.size a := fun v386 v388 k0_hw23 => k0_hw23

def k0_chk24 (v402 : IVec S16 32) (v404 : IVec S16 32) : Prop :=
  (∀ a x, ((![v402, v404] : Fin 2 → IVec S16 32) a x).toNat < S128x256.size a)
theorem k0_idx24_inb : ∀ (v402 : IVec S16 32) (v404 : IVec S16 32) (k0_hw24 : k0_chk24 v402 v404), ∀ a x, ((![v402, v404] : Fin 2 → IVec S16 32) a x).toNat < S128x256.size a := fun v402 v404 k0_hw24 => k0_hw24

def k0_chk25 (v418 : IVec S16 32) (v420 : IVec S16 32) : Prop :=
  (∀ a x, ((![v418, v420] : Fin 2 → IVec S16 32) a x).toNat < S128x256.size a)
theorem k0_idx25_inb : ∀ (v418 : IVec S16 32) (v420 : IVec S16 32) (k0_hw25 : k0_chk25 v418 v420), ∀ a x, ((![v418, v420] : Fin 2 → IVec S16 32) a x).toNat < S128x256.size a := fun v418 v420 k0_hw25 => k0_hw25

def k0_chk26 (v434 : IVec S16 32) (v436 : IVec S16 32) : Prop :=
  (∀ a x, ((![v434, v436] : Fin 2 → IVec S16 32) a x).toNat < S128x256.size a)
theorem k0_idx26_inb : ∀ (v434 : IVec S16 32) (v436 : IVec S16 32) (k0_hw26 : k0_chk26 v434 v436), ∀ a x, ((![v434, v436] : Fin 2 → IVec S16 32) a x).toNat < S128x256.size a := fun v434 v436 k0_hw26 => k0_hw26

def k0_chk27 (v450 : IVec S16 32) (v452 : IVec S16 32) : Prop :=
  (∀ a x, ((![v450, v452] : Fin 2 → IVec S16 32) a x).toNat < S128x256.size a)
theorem k0_idx27_inb : ∀ (v450 : IVec S16 32) (v452 : IVec S16 32) (k0_hw27 : k0_chk27 v450 v452), ∀ a x, ((![v450, v452] : Fin 2 → IVec S16 32) a x).toNat < S128x256.size a := fun v450 v452 k0_hw27 => k0_hw27

def k0_chk28 (v466 : IVec S16 32) (v468 : IVec S16 32) : Prop :=
  (∀ a x, ((![v466, v468] : Fin 2 → IVec S16 32) a x).toNat < S128x256.size a)
theorem k0_idx28_inb : ∀ (v466 : IVec S16 32) (v468 : IVec S16 32) (k0_hw28 : k0_chk28 v466 v468), ∀ a x, ((![v466, v468] : Fin 2 → IVec S16 32) a x).toNat < S128x256.size a := fun v466 v468 k0_hw28 => k0_hw28

def k0_chk29 (v482 : IVec S16 32) (v484 : IVec S16 32) : Prop :=
  (∀ a x, ((![v482, v484] : Fin 2 → IVec S16 32) a x).toNat < S128x256.size a)
theorem k0_idx29_inb : ∀ (v482 : IVec S16 32) (v484 : IVec S16 32) (k0_hw29 : k0_chk29 v482 v484), ∀ a x, ((![v482, v484] : Fin 2 → IVec S16 32) a x).toNat < S128x256.size a := fun v482 v484 k0_hw29 => k0_hw29

def k0_chk30 (v498 : IVec S16 32) (v500 : IVec S16 32) : Prop :=
  (∀ a x, ((![v498, v500] : Fin 2 → IVec S16 32) a x).toNat < S128x256.size a)
theorem k0_idx30_inb : ∀ (v498 : IVec S16 32) (v500 : IVec S16 32) (k0_hw30 : k0_chk30 v498 v500), ∀ a x, ((![v498, v500] : Fin 2 → IVec S16 32) a x).toNat < S128x256.size a := fun v498 v500 k0_hw30 => k0_hw30

def k0_chk31 (v514 : IVec S16 32) (v516 : IVec S16 32) : Prop :=
  (∀ a x, ((![v514, v516] : Fin 2 → IVec S16 32) a x).toNat < S128x256.size a)
theorem k0_idx31_inb : ∀ (v514 : IVec S16 32) (v516 : IVec S16 32) (k0_hw31 : k0_chk31 v514 v516), ∀ a x, ((![v514, v516] : Fin 2 → IVec S16 32) a x).toNat < S128x256.size a := fun v514 v516 k0_hw31 => k0_hw31

def k0_chk32 (v530 : IVec S16 32) (v532 : IVec S16 32) : Prop :=
  (∀ a x, ((![v530, v532] : Fin 2 → IVec S16 32) a x).toNat < S128x256.size a)
theorem k0_idx32_inb : ∀ (v530 : IVec S16 32) (v532 : IVec S16 32) (k0_hw32 : k0_chk32 v530 v532), ∀ a x, ((![v530, v532] : Fin 2 → IVec S16 32) a x).toNat < S128x256.size a := fun v530 v532 k0_hw32 => k0_hw32
def k0_off4 (i : grid0.Coords) (c0_i32_201 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v537 : BitVec 32 := Scalar.addi v2 c0_i32_201
  let c0_i32_202 : BitVec 32 := 0#32
  ![v537.toNat, 0]
@[reducible] def k0_t1_loop : Scf.Loop 32 :=
  let c0_i32_220 : BitVec 32 := 0#32
  let c64_i32_221 : BitVec 32 := 64#32
  let v553 : BitVec 32 := Scalar.addi c0_i32_220 c64_i32_221
  let c1_i32 : BitVec 32 := 1#32
  ⟨c0_i32_220, v553, c1_i32⟩
def k0_off5 (k0_t1 : Fin k0_t1_loop.trips) : Fin 2 → Nat :=
  let c0_i32_220 : BitVec 32 := 0#32
  let c1_i32 : BitVec 32 := 1#32
  let arg21 : BitVec 32 := Scf.iv c0_i32_220 c1_i32 k0_t1
  let v638 : Index := Scalar.indexCast arg21
  let c0_328 : Index := 0#32
  ![v638.toNat, 0]
def k0_off6 (k0_t1 : Fin k0_t1_loop.trips) : Fin 2 → Nat :=
  let c0_i32_220 : BitVec 32 := 0#32
  let c1_i32 : BitVec 32 := 1#32
  let arg21 : BitVec 32 := Scf.iv c0_i32_220 c1_i32 k0_t1
  let v645 : Index := Scalar.indexCast arg21
  let c16_330 : Index := 16#32
  ![v645.toNat, 16]
def k0_off7 (k0_t1 : Fin k0_t1_loop.trips) : Fin 2 → Nat :=
  let c0_i32_220 : BitVec 32 := 0#32
  let c1_i32 : BitVec 32 := 1#32
  let arg21 : BitVec 32 := Scf.iv c0_i32_220 c1_i32 k0_t1
  let v652 : Index := Scalar.indexCast arg21
  let c32_332 : Index := 32#32
  ![v652.toNat, 32]
def k0_off8 (k0_t1 : Fin k0_t1_loop.trips) : Fin 2 → Nat :=
  let c0_i32_220 : BitVec 32 := 0#32
  let c1_i32 : BitVec 32 := 1#32
  let arg21 : BitVec 32 := Scf.iv c0_i32_220 c1_i32 k0_t1
  let v659 : Index := Scalar.indexCast arg21
  let c48_334 : Index := 48#32
  ![v659.toNat, 48]
def k0_off9 (k0_t1 : Fin k0_t1_loop.trips) : Fin 2 → Nat :=
  let c0_i32_220 : BitVec 32 := 0#32
  let c1_i32 : BitVec 32 := 1#32
  let arg21 : BitVec 32 := Scf.iv c0_i32_220 c1_i32 k0_t1
  let v666 : Index := Scalar.indexCast arg21
  let c64_336 : Index := 64#32
  ![v666.toNat, 64]
def k0_off10 (k0_t1 : Fin k0_t1_loop.trips) : Fin 2 → Nat :=
  let c0_i32_220 : BitVec 32 := 0#32
  let c1_i32 : BitVec 32 := 1#32
  let arg21 : BitVec 32 := Scf.iv c0_i32_220 c1_i32 k0_t1
  let v673 : Index := Scalar.indexCast arg21
  let c80_338 : Index := 80#32
  ![v673.toNat, 80]
def k0_off11 (k0_t1 : Fin k0_t1_loop.trips) : Fin 2 → Nat :=
  let c0_i32_220 : BitVec 32 := 0#32
  let c1_i32 : BitVec 32 := 1#32
  let arg21 : BitVec 32 := Scf.iv c0_i32_220 c1_i32 k0_t1
  let v680 : Index := Scalar.indexCast arg21
  let c96_340 : Index := 96#32
  ![v680.toNat, 96]
def k0_off12 (k0_t1 : Fin k0_t1_loop.trips) : Fin 2 → Nat :=
  let c0_i32_220 : BitVec 32 := 0#32
  let c1_i32 : BitVec 32 := 1#32
  let arg21 : BitVec 32 := Scf.iv c0_i32_220 c1_i32 k0_t1
  let v687 : Index := Scalar.indexCast arg21
  let c112_342 : Index := 112#32
  ![v687.toNat, 112]
@[reducible] def k0_t2_loop : Scf.Loop 32 :=
  let c0_i32_235 : BitVec 32 := 0#32
  let c64_i32_236 : BitVec 32 := 64#32
  let v565 : BitVec 32 := Scalar.addi c0_i32_235 c64_i32_236
  let c1_i32_237 : BitVec 32 := 1#32
  ⟨c0_i32_235, v565, c1_i32_237⟩
def k0_off13 (k0_t2 : Fin k0_t2_loop.trips) : Fin 2 → Nat :=
  let c0_i32_235 : BitVec 32 := 0#32
  let c1_i32_237 : BitVec 32 := 1#32
  let arg21 : BitVec 32 := Scf.iv c0_i32_235 c1_i32_237 k0_t2
  let v638 : Index := Scalar.indexCast arg21
  let c0_328 : Index := 0#32
  ![v638.toNat, 0]
def k0_off14 (k0_t2 : Fin k0_t2_loop.trips) : Fin 2 → Nat :=
  let c0_i32_235 : BitVec 32 := 0#32
  let c1_i32_237 : BitVec 32 := 1#32
  let arg21 : BitVec 32 := Scf.iv c0_i32_235 c1_i32_237 k0_t2
  let v645 : Index := Scalar.indexCast arg21
  let c16_330 : Index := 16#32
  ![v645.toNat, 16]
def k0_off15 (k0_t2 : Fin k0_t2_loop.trips) : Fin 2 → Nat :=
  let c0_i32_235 : BitVec 32 := 0#32
  let c1_i32_237 : BitVec 32 := 1#32
  let arg21 : BitVec 32 := Scf.iv c0_i32_235 c1_i32_237 k0_t2
  let v652 : Index := Scalar.indexCast arg21
  let c32_332 : Index := 32#32
  ![v652.toNat, 32]
def k0_off16 (k0_t2 : Fin k0_t2_loop.trips) : Fin 2 → Nat :=
  let c0_i32_235 : BitVec 32 := 0#32
  let c1_i32_237 : BitVec 32 := 1#32
  let arg21 : BitVec 32 := Scf.iv c0_i32_235 c1_i32_237 k0_t2
  let v659 : Index := Scalar.indexCast arg21
  let c48_334 : Index := 48#32
  ![v659.toNat, 48]
def k0_off17 (k0_t2 : Fin k0_t2_loop.trips) : Fin 2 → Nat :=
  let c0_i32_235 : BitVec 32 := 0#32
  let c1_i32_237 : BitVec 32 := 1#32
  let arg21 : BitVec 32 := Scf.iv c0_i32_235 c1_i32_237 k0_t2
  let v666 : Index := Scalar.indexCast arg21
  let c64_336 : Index := 64#32
  ![v666.toNat, 64]
def k0_off18 (k0_t2 : Fin k0_t2_loop.trips) : Fin 2 → Nat :=
  let c0_i32_235 : BitVec 32 := 0#32
  let c1_i32_237 : BitVec 32 := 1#32
  let arg21 : BitVec 32 := Scf.iv c0_i32_235 c1_i32_237 k0_t2
  let v673 : Index := Scalar.indexCast arg21
  let c80_338 : Index := 80#32
  ![v673.toNat, 80]
def k0_off19 (k0_t2 : Fin k0_t2_loop.trips) : Fin 2 → Nat :=
  let c0_i32_235 : BitVec 32 := 0#32
  let c1_i32_237 : BitVec 32 := 1#32
  let arg21 : BitVec 32 := Scf.iv c0_i32_235 c1_i32_237 k0_t2
  let v680 : Index := Scalar.indexCast arg21
  let c96_340 : Index := 96#32
  ![v680.toNat, 96]
def k0_off20 (k0_t2 : Fin k0_t2_loop.trips) : Fin 2 → Nat :=
  let c0_i32_235 : BitVec 32 := 0#32
  let c1_i32_237 : BitVec 32 := 1#32
  let arg21 : BitVec 32 := Scf.iv c0_i32_235 c1_i32_237 k0_t2
  let v687 : Index := Scalar.indexCast arg21
  let c112_342 : Index := 112#32
  ![v687.toNat, 112]
@[reducible] def k0_t3_loop : Scf.Loop 32 :=
  let c0_i32_251 : BitVec 32 := 0#32
  let c64_i32_252 : BitVec 32 := 64#32
  let v577 : BitVec 32 := Scalar.addi c0_i32_251 c64_i32_252
  let c1_i32_253 : BitVec 32 := 1#32
  ⟨c0_i32_251, v577, c1_i32_253⟩
def k0_off21 (k0_t3 : Fin k0_t3_loop.trips) : Fin 2 → Nat :=
  let c0_i32_251 : BitVec 32 := 0#32
  let c1_i32_253 : BitVec 32 := 1#32
  let arg21 : BitVec 32 := Scf.iv c0_i32_251 c1_i32_253 k0_t3
  let v638 : Index := Scalar.indexCast arg21
  let c0_328 : Index := 0#32
  ![v638.toNat, 0]
def k0_off22 (k0_t3 : Fin k0_t3_loop.trips) : Fin 2 → Nat :=
  let c0_i32_251 : BitVec 32 := 0#32
  let c1_i32_253 : BitVec 32 := 1#32
  let arg21 : BitVec 32 := Scf.iv c0_i32_251 c1_i32_253 k0_t3
  let v645 : Index := Scalar.indexCast arg21
  let c16_330 : Index := 16#32
  ![v645.toNat, 16]
def k0_off23 (k0_t3 : Fin k0_t3_loop.trips) : Fin 2 → Nat :=
  let c0_i32_251 : BitVec 32 := 0#32
  let c1_i32_253 : BitVec 32 := 1#32
  let arg21 : BitVec 32 := Scf.iv c0_i32_251 c1_i32_253 k0_t3
  let v652 : Index := Scalar.indexCast arg21
  let c32_332 : Index := 32#32
  ![v652.toNat, 32]
def k0_off24 (k0_t3 : Fin k0_t3_loop.trips) : Fin 2 → Nat :=
  let c0_i32_251 : BitVec 32 := 0#32
  let c1_i32_253 : BitVec 32 := 1#32
  let arg21 : BitVec 32 := Scf.iv c0_i32_251 c1_i32_253 k0_t3
  let v659 : Index := Scalar.indexCast arg21
  let c48_334 : Index := 48#32
  ![v659.toNat, 48]
def k0_off25 (k0_t3 : Fin k0_t3_loop.trips) : Fin 2 → Nat :=
  let c0_i32_251 : BitVec 32 := 0#32
  let c1_i32_253 : BitVec 32 := 1#32
  let arg21 : BitVec 32 := Scf.iv c0_i32_251 c1_i32_253 k0_t3
  let v666 : Index := Scalar.indexCast arg21
  let c64_336 : Index := 64#32
  ![v666.toNat, 64]
def k0_off26 (k0_t3 : Fin k0_t3_loop.trips) : Fin 2 → Nat :=
  let c0_i32_251 : BitVec 32 := 0#32
  let c1_i32_253 : BitVec 32 := 1#32
  let arg21 : BitVec 32 := Scf.iv c0_i32_251 c1_i32_253 k0_t3
  let v673 : Index := Scalar.indexCast arg21
  let c80_338 : Index := 80#32
  ![v673.toNat, 80]
def k0_off27 (k0_t3 : Fin k0_t3_loop.trips) : Fin 2 → Nat :=
  let c0_i32_251 : BitVec 32 := 0#32
  let c1_i32_253 : BitVec 32 := 1#32
  let arg21 : BitVec 32 := Scf.iv c0_i32_251 c1_i32_253 k0_t3
  let v680 : Index := Scalar.indexCast arg21
  let c96_340 : Index := 96#32
  ![v680.toNat, 96]
def k0_off28 (k0_t3 : Fin k0_t3_loop.trips) : Fin 2 → Nat :=
  let c0_i32_251 : BitVec 32 := 0#32
  let c1_i32_253 : BitVec 32 := 1#32
  let arg21 : BitVec 32 := Scf.iv c0_i32_251 c1_i32_253 k0_t3
  let v687 : Index := Scalar.indexCast arg21
  let c112_342 : Index := 112#32
  ![v687.toNat, 112]
@[reducible] def k0_t4_loop : Scf.Loop 32 :=
  let c0_i32_267 : BitVec 32 := 0#32
  let c64_i32_268 : BitVec 32 := 64#32
  let v589 : BitVec 32 := Scalar.addi c0_i32_267 c64_i32_268
  let c1_i32_269 : BitVec 32 := 1#32
  ⟨c0_i32_267, v589, c1_i32_269⟩
def k0_off29 (k0_t4 : Fin k0_t4_loop.trips) : Fin 2 → Nat :=
  let c0_i32_267 : BitVec 32 := 0#32
  let c1_i32_269 : BitVec 32 := 1#32
  let arg21 : BitVec 32 := Scf.iv c0_i32_267 c1_i32_269 k0_t4
  let v638 : Index := Scalar.indexCast arg21
  let c0_328 : Index := 0#32
  ![v638.toNat, 0]
def k0_off30 (k0_t4 : Fin k0_t4_loop.trips) : Fin 2 → Nat :=
  let c0_i32_267 : BitVec 32 := 0#32
  let c1_i32_269 : BitVec 32 := 1#32
  let arg21 : BitVec 32 := Scf.iv c0_i32_267 c1_i32_269 k0_t4
  let v645 : Index := Scalar.indexCast arg21
  let c16_330 : Index := 16#32
  ![v645.toNat, 16]
def k0_off31 (k0_t4 : Fin k0_t4_loop.trips) : Fin 2 → Nat :=
  let c0_i32_267 : BitVec 32 := 0#32
  let c1_i32_269 : BitVec 32 := 1#32
  let arg21 : BitVec 32 := Scf.iv c0_i32_267 c1_i32_269 k0_t4
  let v652 : Index := Scalar.indexCast arg21
  let c32_332 : Index := 32#32
  ![v652.toNat, 32]
def k0_off32 (k0_t4 : Fin k0_t4_loop.trips) : Fin 2 → Nat :=
  let c0_i32_267 : BitVec 32 := 0#32
  let c1_i32_269 : BitVec 32 := 1#32
  let arg21 : BitVec 32 := Scf.iv c0_i32_267 c1_i32_269 k0_t4
  let v659 : Index := Scalar.indexCast arg21
  let c48_334 : Index := 48#32
  ![v659.toNat, 48]
def k0_off33 (k0_t4 : Fin k0_t4_loop.trips) : Fin 2 → Nat :=
  let c0_i32_267 : BitVec 32 := 0#32
  let c1_i32_269 : BitVec 32 := 1#32
  let arg21 : BitVec 32 := Scf.iv c0_i32_267 c1_i32_269 k0_t4
  let v666 : Index := Scalar.indexCast arg21
  let c64_336 : Index := 64#32
  ![v666.toNat, 64]
def k0_off34 (k0_t4 : Fin k0_t4_loop.trips) : Fin 2 → Nat :=
  let c0_i32_267 : BitVec 32 := 0#32
  let c1_i32_269 : BitVec 32 := 1#32
  let arg21 : BitVec 32 := Scf.iv c0_i32_267 c1_i32_269 k0_t4
  let v673 : Index := Scalar.indexCast arg21
  let c80_338 : Index := 80#32
  ![v673.toNat, 80]
def k0_off35 (k0_t4 : Fin k0_t4_loop.trips) : Fin 2 → Nat :=
  let c0_i32_267 : BitVec 32 := 0#32
  let c1_i32_269 : BitVec 32 := 1#32
  let arg21 : BitVec 32 := Scf.iv c0_i32_267 c1_i32_269 k0_t4
  let v680 : Index := Scalar.indexCast arg21
  let c96_340 : Index := 96#32
  ![v680.toNat, 96]
def k0_off36 (k0_t4 : Fin k0_t4_loop.trips) : Fin 2 → Nat :=
  let c0_i32_267 : BitVec 32 := 0#32
  let c1_i32_269 : BitVec 32 := 1#32
  let arg21 : BitVec 32 := Scf.iv c0_i32_267 c1_i32_269 k0_t4
  let v687 : Index := Scalar.indexCast arg21
  let c112_342 : Index := 112#32
  ![v687.toNat, 112]
@[reducible] def k0_t5_loop : Scf.Loop 32 :=
  let c0_i32_282 : BitVec 32 := 0#32
  let c64_i32_283 : BitVec 32 := 64#32
  let v601 : BitVec 32 := Scalar.addi c0_i32_282 c64_i32_283
  let c1_i32_284 : BitVec 32 := 1#32
  ⟨c0_i32_282, v601, c1_i32_284⟩
def k0_off37 (k0_t5 : Fin k0_t5_loop.trips) : Fin 2 → Nat :=
  let c0_i32_282 : BitVec 32 := 0#32
  let c1_i32_284 : BitVec 32 := 1#32
  let arg21 : BitVec 32 := Scf.iv c0_i32_282 c1_i32_284 k0_t5
  let v638 : Index := Scalar.indexCast arg21
  let c0_328 : Index := 0#32
  ![v638.toNat, 0]
def k0_off38 (k0_t5 : Fin k0_t5_loop.trips) : Fin 2 → Nat :=
  let c0_i32_282 : BitVec 32 := 0#32
  let c1_i32_284 : BitVec 32 := 1#32
  let arg21 : BitVec 32 := Scf.iv c0_i32_282 c1_i32_284 k0_t5
  let v645 : Index := Scalar.indexCast arg21
  let c16_330 : Index := 16#32
  ![v645.toNat, 16]
def k0_off39 (k0_t5 : Fin k0_t5_loop.trips) : Fin 2 → Nat :=
  let c0_i32_282 : BitVec 32 := 0#32
  let c1_i32_284 : BitVec 32 := 1#32
  let arg21 : BitVec 32 := Scf.iv c0_i32_282 c1_i32_284 k0_t5
  let v652 : Index := Scalar.indexCast arg21
  let c32_332 : Index := 32#32
  ![v652.toNat, 32]
def k0_off40 (k0_t5 : Fin k0_t5_loop.trips) : Fin 2 → Nat :=
  let c0_i32_282 : BitVec 32 := 0#32
  let c1_i32_284 : BitVec 32 := 1#32
  let arg21 : BitVec 32 := Scf.iv c0_i32_282 c1_i32_284 k0_t5
  let v659 : Index := Scalar.indexCast arg21
  let c48_334 : Index := 48#32
  ![v659.toNat, 48]
def k0_off41 (k0_t5 : Fin k0_t5_loop.trips) : Fin 2 → Nat :=
  let c0_i32_282 : BitVec 32 := 0#32
  let c1_i32_284 : BitVec 32 := 1#32
  let arg21 : BitVec 32 := Scf.iv c0_i32_282 c1_i32_284 k0_t5
  let v666 : Index := Scalar.indexCast arg21
  let c64_336 : Index := 64#32
  ![v666.toNat, 64]
def k0_off42 (k0_t5 : Fin k0_t5_loop.trips) : Fin 2 → Nat :=
  let c0_i32_282 : BitVec 32 := 0#32
  let c1_i32_284 : BitVec 32 := 1#32
  let arg21 : BitVec 32 := Scf.iv c0_i32_282 c1_i32_284 k0_t5
  let v673 : Index := Scalar.indexCast arg21
  let c80_338 : Index := 80#32
  ![v673.toNat, 80]
def k0_off43 (k0_t5 : Fin k0_t5_loop.trips) : Fin 2 → Nat :=
  let c0_i32_282 : BitVec 32 := 0#32
  let c1_i32_284 : BitVec 32 := 1#32
  let arg21 : BitVec 32 := Scf.iv c0_i32_282 c1_i32_284 k0_t5
  let v680 : Index := Scalar.indexCast arg21
  let c96_340 : Index := 96#32
  ![v680.toNat, 96]
def k0_off44 (k0_t5 : Fin k0_t5_loop.trips) : Fin 2 → Nat :=
  let c0_i32_282 : BitVec 32 := 0#32
  let c1_i32_284 : BitVec 32 := 1#32
  let arg21 : BitVec 32 := Scf.iv c0_i32_282 c1_i32_284 k0_t5
  let v687 : Index := Scalar.indexCast arg21
  let c112_342 : Index := 112#32
  ![v687.toNat, 112]
@[reducible] def k0_t6_loop : Scf.Loop 32 :=
  let c0_i32_297 : BitVec 32 := 0#32
  let c64_i32_298 : BitVec 32 := 64#32
  let v613 : BitVec 32 := Scalar.addi c0_i32_297 c64_i32_298
  let c1_i32_299 : BitVec 32 := 1#32
  ⟨c0_i32_297, v613, c1_i32_299⟩
def k0_off45 (k0_t6 : Fin k0_t6_loop.trips) : Fin 2 → Nat :=
  let c0_i32_297 : BitVec 32 := 0#32
  let c1_i32_299 : BitVec 32 := 1#32
  let arg21 : BitVec 32 := Scf.iv c0_i32_297 c1_i32_299 k0_t6
  let v638 : Index := Scalar.indexCast arg21
  let c0_328 : Index := 0#32
  ![v638.toNat, 0]
def k0_off46 (k0_t6 : Fin k0_t6_loop.trips) : Fin 2 → Nat :=
  let c0_i32_297 : BitVec 32 := 0#32
  let c1_i32_299 : BitVec 32 := 1#32
  let arg21 : BitVec 32 := Scf.iv c0_i32_297 c1_i32_299 k0_t6
  let v645 : Index := Scalar.indexCast arg21
  let c16_330 : Index := 16#32
  ![v645.toNat, 16]
def k0_off47 (k0_t6 : Fin k0_t6_loop.trips) : Fin 2 → Nat :=
  let c0_i32_297 : BitVec 32 := 0#32
  let c1_i32_299 : BitVec 32 := 1#32
  let arg21 : BitVec 32 := Scf.iv c0_i32_297 c1_i32_299 k0_t6
  let v652 : Index := Scalar.indexCast arg21
  let c32_332 : Index := 32#32
  ![v652.toNat, 32]
def k0_off48 (k0_t6 : Fin k0_t6_loop.trips) : Fin 2 → Nat :=
  let c0_i32_297 : BitVec 32 := 0#32
  let c1_i32_299 : BitVec 32 := 1#32
  let arg21 : BitVec 32 := Scf.iv c0_i32_297 c1_i32_299 k0_t6
  let v659 : Index := Scalar.indexCast arg21
  let c48_334 : Index := 48#32
  ![v659.toNat, 48]
def k0_off49 (k0_t6 : Fin k0_t6_loop.trips) : Fin 2 → Nat :=
  let c0_i32_297 : BitVec 32 := 0#32
  let c1_i32_299 : BitVec 32 := 1#32
  let arg21 : BitVec 32 := Scf.iv c0_i32_297 c1_i32_299 k0_t6
  let v666 : Index := Scalar.indexCast arg21
  let c64_336 : Index := 64#32
  ![v666.toNat, 64]
def k0_off50 (k0_t6 : Fin k0_t6_loop.trips) : Fin 2 → Nat :=
  let c0_i32_297 : BitVec 32 := 0#32
  let c1_i32_299 : BitVec 32 := 1#32
  let arg21 : BitVec 32 := Scf.iv c0_i32_297 c1_i32_299 k0_t6
  let v673 : Index := Scalar.indexCast arg21
  let c80_338 : Index := 80#32
  ![v673.toNat, 80]
def k0_off51 (k0_t6 : Fin k0_t6_loop.trips) : Fin 2 → Nat :=
  let c0_i32_297 : BitVec 32 := 0#32
  let c1_i32_299 : BitVec 32 := 1#32
  let arg21 : BitVec 32 := Scf.iv c0_i32_297 c1_i32_299 k0_t6
  let v680 : Index := Scalar.indexCast arg21
  let c96_340 : Index := 96#32
  ![v680.toNat, 96]
def k0_off52 (k0_t6 : Fin k0_t6_loop.trips) : Fin 2 → Nat :=
  let c0_i32_297 : BitVec 32 := 0#32
  let c1_i32_299 : BitVec 32 := 1#32
  let arg21 : BitVec 32 := Scf.iv c0_i32_297 c1_i32_299 k0_t6
  let v687 : Index := Scalar.indexCast arg21
  let c112_342 : Index := 112#32
  ![v687.toNat, 112]
@[reducible] def k0_t7_loop : Scf.Loop 32 :=
  let c0_i32_312 : BitVec 32 := 0#32
  let c64_i32_313 : BitVec 32 := 64#32
  let v625 : BitVec 32 := Scalar.addi c0_i32_312 c64_i32_313
  let c1_i32_314 : BitVec 32 := 1#32
  ⟨c0_i32_312, v625, c1_i32_314⟩
def k0_off53 (k0_t7 : Fin k0_t7_loop.trips) : Fin 2 → Nat :=
  let c0_i32_312 : BitVec 32 := 0#32
  let c1_i32_314 : BitVec 32 := 1#32
  let arg21 : BitVec 32 := Scf.iv c0_i32_312 c1_i32_314 k0_t7
  let v638 : Index := Scalar.indexCast arg21
  let c0_328 : Index := 0#32
  ![v638.toNat, 0]
def k0_off54 (k0_t7 : Fin k0_t7_loop.trips) : Fin 2 → Nat :=
  let c0_i32_312 : BitVec 32 := 0#32
  let c1_i32_314 : BitVec 32 := 1#32
  let arg21 : BitVec 32 := Scf.iv c0_i32_312 c1_i32_314 k0_t7
  let v645 : Index := Scalar.indexCast arg21
  let c16_330 : Index := 16#32
  ![v645.toNat, 16]
def k0_off55 (k0_t7 : Fin k0_t7_loop.trips) : Fin 2 → Nat :=
  let c0_i32_312 : BitVec 32 := 0#32
  let c1_i32_314 : BitVec 32 := 1#32
  let arg21 : BitVec 32 := Scf.iv c0_i32_312 c1_i32_314 k0_t7
  let v652 : Index := Scalar.indexCast arg21
  let c32_332 : Index := 32#32
  ![v652.toNat, 32]
def k0_off56 (k0_t7 : Fin k0_t7_loop.trips) : Fin 2 → Nat :=
  let c0_i32_312 : BitVec 32 := 0#32
  let c1_i32_314 : BitVec 32 := 1#32
  let arg21 : BitVec 32 := Scf.iv c0_i32_312 c1_i32_314 k0_t7
  let v659 : Index := Scalar.indexCast arg21
  let c48_334 : Index := 48#32
  ![v659.toNat, 48]
def k0_off57 (k0_t7 : Fin k0_t7_loop.trips) : Fin 2 → Nat :=
  let c0_i32_312 : BitVec 32 := 0#32
  let c1_i32_314 : BitVec 32 := 1#32
  let arg21 : BitVec 32 := Scf.iv c0_i32_312 c1_i32_314 k0_t7
  let v666 : Index := Scalar.indexCast arg21
  let c64_336 : Index := 64#32
  ![v666.toNat, 64]
def k0_off58 (k0_t7 : Fin k0_t7_loop.trips) : Fin 2 → Nat :=
  let c0_i32_312 : BitVec 32 := 0#32
  let c1_i32_314 : BitVec 32 := 1#32
  let arg21 : BitVec 32 := Scf.iv c0_i32_312 c1_i32_314 k0_t7
  let v673 : Index := Scalar.indexCast arg21
  let c80_338 : Index := 80#32
  ![v673.toNat, 80]
def k0_off59 (k0_t7 : Fin k0_t7_loop.trips) : Fin 2 → Nat :=
  let c0_i32_312 : BitVec 32 := 0#32
  let c1_i32_314 : BitVec 32 := 1#32
  let arg21 : BitVec 32 := Scf.iv c0_i32_312 c1_i32_314 k0_t7
  let v680 : Index := Scalar.indexCast arg21
  let c96_340 : Index := 96#32
  ![v680.toNat, 96]
def k0_off60 (k0_t7 : Fin k0_t7_loop.trips) : Fin 2 → Nat :=
  let c0_i32_312 : BitVec 32 := 0#32
  let c1_i32_314 : BitVec 32 := 1#32
  let arg21 : BitVec 32 := Scf.iv c0_i32_312 c1_i32_314 k0_t7
  let v687 : Index := Scalar.indexCast arg21
  let c112_342 : Index := 112#32
  ![v687.toNat, 112]
@[reducible] def k0_t8_loop : Scf.Loop 32 :=
  let c0_i32_322 : BitVec 32 := 0#32
  let c64_i32_323 : BitVec 32 := 64#32
  let v632 : BitVec 32 := Scalar.addi c0_i32_322 c64_i32_323
  let c1_i32_324 : BitVec 32 := 1#32
  ⟨c0_i32_322, v632, c1_i32_324⟩
def k0_off61 (k0_t8 : Fin k0_t8_loop.trips) : Fin 2 → Nat :=
  let c0_i32_322 : BitVec 32 := 0#32
  let c1_i32_324 : BitVec 32 := 1#32
  let arg21 : BitVec 32 := Scf.iv c0_i32_322 c1_i32_324 k0_t8
  let v638 : Index := Scalar.indexCast arg21
  let c0_328 : Index := 0#32
  ![v638.toNat, 0]
def k0_off62 (k0_t8 : Fin k0_t8_loop.trips) : Fin 2 → Nat :=
  let c0_i32_322 : BitVec 32 := 0#32
  let c1_i32_324 : BitVec 32 := 1#32
  let arg21 : BitVec 32 := Scf.iv c0_i32_322 c1_i32_324 k0_t8
  let v645 : Index := Scalar.indexCast arg21
  let c16_330 : Index := 16#32
  ![v645.toNat, 16]
def k0_off63 (k0_t8 : Fin k0_t8_loop.trips) : Fin 2 → Nat :=
  let c0_i32_322 : BitVec 32 := 0#32
  let c1_i32_324 : BitVec 32 := 1#32
  let arg21 : BitVec 32 := Scf.iv c0_i32_322 c1_i32_324 k0_t8
  let v652 : Index := Scalar.indexCast arg21
  let c32_332 : Index := 32#32
  ![v652.toNat, 32]
def k0_off64 (k0_t8 : Fin k0_t8_loop.trips) : Fin 2 → Nat :=
  let c0_i32_322 : BitVec 32 := 0#32
  let c1_i32_324 : BitVec 32 := 1#32
  let arg21 : BitVec 32 := Scf.iv c0_i32_322 c1_i32_324 k0_t8
  let v659 : Index := Scalar.indexCast arg21
  let c48_334 : Index := 48#32
  ![v659.toNat, 48]
def k0_off65 (k0_t8 : Fin k0_t8_loop.trips) : Fin 2 → Nat :=
  let c0_i32_322 : BitVec 32 := 0#32
  let c1_i32_324 : BitVec 32 := 1#32
  let arg21 : BitVec 32 := Scf.iv c0_i32_322 c1_i32_324 k0_t8
  let v666 : Index := Scalar.indexCast arg21
  let c64_336 : Index := 64#32
  ![v666.toNat, 64]
def k0_off66 (k0_t8 : Fin k0_t8_loop.trips) : Fin 2 → Nat :=
  let c0_i32_322 : BitVec 32 := 0#32
  let c1_i32_324 : BitVec 32 := 1#32
  let arg21 : BitVec 32 := Scf.iv c0_i32_322 c1_i32_324 k0_t8
  let v673 : Index := Scalar.indexCast arg21
  let c80_338 : Index := 80#32
  ![v673.toNat, 80]
def k0_off67 (k0_t8 : Fin k0_t8_loop.trips) : Fin 2 → Nat :=
  let c0_i32_322 : BitVec 32 := 0#32
  let c1_i32_324 : BitVec 32 := 1#32
  let arg21 : BitVec 32 := Scf.iv c0_i32_322 c1_i32_324 k0_t8
  let v680 : Index := Scalar.indexCast arg21
  let c96_340 : Index := 96#32
  ![v680.toNat, 96]
def k0_off68 (k0_t8 : Fin k0_t8_loop.trips) : Fin 2 → Nat :=
  let c0_i32_322 : BitVec 32 := 0#32
  let c1_i32_324 : BitVec 32 := 1#32
  let arg21 : BitVec 32 := Scf.iv c0_i32_322 c1_i32_324 k0_t8
  let v687 : Index := Scalar.indexCast arg21
  let c112_342 : Index := 112#32
  ![v687.toNat, 112]
def k0_off69 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_328_r1 : BitVec 32 := 0#32
  ![v1.toNat, 0]
abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S896x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x2048 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x128 : Shape := ⟨2, ![16384, 128]⟩
abbrev S16384x1000 : Shape := ⟨2, ![16384, 1000]⟩
abbrev S16384 : Shape := ⟨1, ![16384]⟩
abbrev S1000x128 : Shape := ⟨2, ![1000, 128]⟩
abbrev S16384x1 : Shape := ⟨2, ![16384, 1]⟩
abbrev S_ : Shape := ⟨0, ![]⟩
abbrev S16384x1x1 : Shape := ⟨3, ![16384, 1, 1]⟩
abbrev S1 : Shape := ⟨1, ![1]⟩
abbrev S1x1x1 : Shape := ⟨3, ![1, 1, 1]⟩
abbrev S1x1 : Shape := ⟨2, ![1, 1]⟩

abbrev nBuf : Space → Nat
  | .hbm => 67
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x1000, .f32⟩
  | .hbm, ⟨2, _⟩ => ⟨S16384, .i32⟩
  | .hbm, ⟨3, _⟩ => ⟨S1000x128, .f32⟩
  | .hbm, ⟨4, _⟩ => ⟨S16384x1, .i32⟩
  | .hbm, ⟨5, _⟩ => ⟨S_, .i32⟩
  | .hbm, ⟨6, _⟩ => ⟨S16384x1, .i32⟩
  | .hbm, ⟨7, _⟩ => ⟨S16384x1, .i1⟩
  | .hbm, ⟨8, _⟩ => ⟨S_, .i32⟩
  | .hbm, ⟨9, _⟩ => ⟨S16384x1, .i32⟩
  | .hbm, ⟨10, _⟩ => ⟨S16384x1, .i32⟩
  | .hbm, ⟨11, _⟩ => ⟨S16384x1, .i32⟩
  | .hbm, ⟨12, _⟩ => ⟨S16384x1x1, .i32⟩
  | .hbm, ⟨13, _⟩ => ⟨S1, .i32⟩
  | .hbm, ⟨14, _⟩ => ⟨S_, .i32⟩
  | .hbm, ⟨15, _⟩ => ⟨S16384x1x1, .i32⟩
  | .hbm, ⟨16, _⟩ => ⟨S16384x1x1, .i1⟩
  | .hbm, ⟨17, _⟩ => ⟨S1x1x1, .i32⟩
  | .hbm, ⟨18, _⟩ => ⟨S16384x1x1, .i32⟩
  | .hbm, ⟨19, _⟩ => ⟨S16384x1x1, .i1⟩
  | .hbm, ⟨20, _⟩ => ⟨S16384x1x1, .i1⟩
  | .hbm, ⟨21, _⟩ => ⟨S_, .i1⟩
  | .hbm, ⟨22, _⟩ => ⟨S16384x1, .i1⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .i32⟩
  | .hbm, ⟨34, _⟩ => ⟨S16384, .i32⟩
  | .hbm, ⟨35, _⟩ => ⟨S16384, .i1⟩
  | .hbm, ⟨36, _⟩ => ⟨S_, .i32⟩
  | .hbm, ⟨37, _⟩ => ⟨S16384, .i32⟩
  | .hbm, ⟨38, _⟩ => ⟨S16384, .i32⟩
  | .hbm, ⟨39, _⟩ => ⟨S16384, .i32⟩
  | .hbm, ⟨40, _⟩ => ⟨S16384x1, .i32⟩
  | .hbm, ⟨41, _⟩ => ⟨S1, .i32⟩
  | .hbm, ⟨42, _⟩ => ⟨S_, .i32⟩
  | .hbm, ⟨43, _⟩ => ⟨S16384x1, .i32⟩
  | .hbm, ⟨44, _⟩ => ⟨S16384x1, .i1⟩
  | .hbm, ⟨45, _⟩ => ⟨S1x1, .i32⟩
  | .hbm, ⟨46, _⟩ => ⟨S16384x1, .i32⟩
  | .hbm, ⟨47, _⟩ => ⟨S16384x1, .i1⟩
  | .hbm, ⟨48, _⟩ => ⟨S16384x1, .i1⟩
  | .hbm, ⟨49, _⟩ => ⟨S_, .i1⟩
  | .hbm, ⟨50, _⟩ => ⟨S16384, .i1⟩
  | .hbm, ⟨51, _⟩ => ⟨S16384x128, .f32⟩
  | .hbm, ⟨52, _⟩ => ⟨S16384x128, .i1⟩
  | .hbm, ⟨53, _⟩ => ⟨S_, .f32⟩
  | .hbm, ⟨54, _⟩ => ⟨S16384x128, .f32⟩
  | .hbm, ⟨55, _⟩ => ⟨S16384x128, .f32⟩
  | .hbm, ⟨56, _⟩ => ⟨S16384x128, .f32⟩
  | .hbm, ⟨57, _⟩ => ⟨S16384x128, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_cst : Ref sig .tc := ⟨.hbm, 24, rfl⟩
abbrev main_call0_v14 : Ref sig .tc := ⟨.hbm, 25, rfl⟩
abbrev main_v1 : Ref sig .tc := ⟨.hbm, 26, rfl⟩
abbrev main_v2 : Ref sig .tc := ⟨.hbm, 27, rfl⟩
abbrev main_cst : Ref sig .tc := ⟨.hbm, 28, rfl⟩
abbrev main_v3 : Ref sig .tc := ⟨.hbm, 29, rfl⟩
abbrev main_cst_0 : Ref sig .tc := ⟨.hbm, 30, rfl⟩
abbrev main_v4 : Ref sig .tc := ⟨.hbm, 31, rfl⟩
abbrev main_v5 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v6 : Ref sig .tc := ⟨.hbm, 55, rfl⟩
abbrev main_v7 : Ref sig .tc := ⟨.hbm, 56, rfl⟩
abbrev main_v8 : Ref sig .tc := ⟨.hbm, 57, rfl⟩
abbrev main_cst_1 : Ref sig .tc := ⟨.hbm, 58, rfl⟩
abbrev main_v9 : Ref sig .tc := ⟨.hbm, 59, rfl⟩
abbrev main_cst_2 : Ref sig .tc := ⟨.hbm, 60, rfl⟩
abbrev main_v10 : Ref sig .tc := ⟨.hbm, 61, rfl⟩
abbrev main_cst_3 : Ref sig .tc := ⟨.hbm, 62, rfl⟩
abbrev main_v11 : Ref sig .tc := ⟨.hbm, 63, rfl⟩
abbrev main_cst_4 : Ref sig .tc := ⟨.hbm, 64, rfl⟩
abbrev main_v12 : Ref sig .tc := ⟨.hbm, 65, rfl⟩
abbrev main_v13 : Ref sig .tc := ⟨.hbm, 66, rfl⟩

abbrev nD : Nat := 1
abbrev τ : Topo := Topo.v7x

variable {F : FTy → Type} [FloatOps F]
-- ==== Proof.Setup.lean ====
/-
  The kernel's program as the launch theorem of Lib/SparseCore sees it, the resource algebra of the proof, the
  buffers a tile works with, and the values that the tile's steps compute, written as plain functions of the arrays.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton

@[expose] public section

noncomputable section

namespace Cert.Proof.Center

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program -/

abbrev ΛP : Labels := Pipeline.Sig Λ₀ (Fin 1) fun p => (pcfgs (F := F) p).Adm
abbrev K [FloatOps F] : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := URounds (GSem nD τ sig) Unit
abbrev UU : Type := UH × UP × Counters

local notation "𝕄" => MT nD τ sig (HIx 1) (Elt F) ℕ UU ℕ

abbrev EH : Emb UH (MT nD τ sig (HIx 1) (Elt F) ℕ UU ℕ) := embL

/-! ## The buffers of a tile -/

abbrev fV : Memref sig .scVector .hbm S16384x128 .f32 := Memref.whole main_arg0_scv
abbrev lV : Memref sig .scVector .hbm S1000x16384 .f32 := Memref.whole main_v0_scv
abbrev yV : Memref sig .scVector .hbm S16384 .i32 := Memref.whole main_arg2_scv
abbrev cV : Memref sig .scVector .hbm S1000x128 .f32 := Memref.whole main_arg3_scv
abbrev oV : Memref sig .scVector .hbm S32x16 .f32 := Memref.whole main_v1_scv
abbrev yB : Memref sig .scVector .vmem S512 .i32 := Memref.whole cc0_scratch0
abbrev lA : Memref sig .scVector .vmem S128x256 .f32 := Memref.whole cc0_scratch1
abbrev lB : Memref sig .scVector .vmem S128x256 .f32 := Memref.whole cc0_scratch2
abbrev fA : Memref sig .scVector .vmem S64x128 .f32 := Memref.whole cc0_scratch3
abbrev fB : Memref sig .scVector .vmem S64x128 .f32 := Memref.whole cc0_scratch4
abbrev gA : Memref sig .scVector .vmem S64x128 .f32 := Memref.whole cc0_scratch5
abbrev gB : Memref sig .scVector .vmem S64x128 .f32 := Memref.whole cc0_scratch6
abbrev oB : Memref sig .scVector .vmem S16 .f32 := Memref.whole cc0_scratch7

abbrev cL (L : grid0.Coords) : Fin τ.nSC := (L 0).castLE hcore0
abbrev jL (L : grid0.Coords) : Fin τ.nSub := (L 1).castLE hsub0
abbrev thr (d : Dev nD) (L : grid0.Coords) : Thread nD τ := V d (cL L) (jL L)

/-! ## What the tile computes, step by step -/

section Values

/-- The sixteen labels of group `g`. -/
def yg (Y : S512.Idx → BitVec 32) (g : ℕ) : IVec S16 32 :=
  fun x => Y (fun | ⟨0, _⟩ => (⟨(16 * g + (x 0).val) % 512, Nat.mod_lt _ (by decide)⟩ : Fin 512))

/-- A label's distance from the first class of the tile's share. -/
def rel (y : IVec S16 32) : IVec S16 32 := subi y (broadcast S16 896#32)
/-- Whether the class is one of the tile's. -/
def ok (y : IVec S16 32) : IVec S16 1 := andi (cmpi .sge (rel y) (broadcast S16 0#32)) (cmpi .slt (rel y) (broadcast S16 104#32))
/-- The row looked up. -/
def rix (y : IVec S16 32) : IVec S16 32 := select (ok y) (rel y) (broadcast S16 0#32)
/-- The columns looked up by a group. -/
def cix (k : ℕ) : IVec S16 32 := addi (broadcast S16 (BitVec.ofNat 32 (16 * (k % 16)))) (iota .scVector S16 32 [0] iota_S16_d0_w32_scVector)

theorem ofBool_eq_one (b : Bool) : BitVec.ofBool b = 1#1 ↔ b = true := by cases b <;> decide

theorem and_eq_one (a b : BitVec 1) : a &&& b = 1#1 ↔ a = 1#1 ∧ b = 1#1 := by revert a b; decide

theorem ok_iff_word (w : BitVec 32) :
    BitVec.ofBool ((0#32).sle (w - 896#32)) &&& BitVec.ofBool ((w - 896#32).slt 104#32) = 1#1 ↔ 896 ≤ w.toInt ∧ w.toInt < 1000 := by
  rw [and_eq_one, ofBool_eq_one, ofBool_eq_one, BitVec.sle_iff_toInt_le, BitVec.slt_iff_toInt_lt]
  have h0 : (0#32 : BitVec 32).toInt = 0 := by decide
  have h1 : (104#32 : BitVec 32).toInt = 104 := by decide
  have h2 : (896#32 : BitVec 32).toInt = 896 := by decide
  have h3 := BitVec.toInt_lt (x := w)
  have h4 := BitVec.le_toInt (x := w)
  rw [h0, h1, BitVec.toInt_sub, h2, Int.bmod_def]
  constructor <;> intro h <;> split_ifs at * <;> omega

theorem ok_iff (y : IVec S16 32) (x : S16.Idx) : ok y x = 1#1 ↔ 896 ≤ (y x).toInt ∧ (y x).toInt < 1000 := ok_iff_word (y x)

theorem rel_toNat {w : BitVec 32} (h : 896 ≤ w.toInt ∧ w.toInt < 1000) : ((w - 896#32).toNat : ℤ) = w.toInt - 896 := by
  have h3 := w.isLt
  rw [BitVec.toNat_sub]
  rw [BitVec.toInt_eq_toNat_cond] at h ⊢
  have h2 : (896#32 : BitVec 32).toNat = 896 := by decide
  rw [h2]; split_ifs at * <;> omega

theorem rix_of_ok {y : IVec S16 32} {x : S16.Idx} (h : ok y x = 1#1) : rix y x = y x - 896#32 := if_pos h
theorem rix_of_not {y : IVec S16 32} {x : S16.Idx} (h : ¬ ok y x = 1#1) : rix y x = 0#32 := if_neg h

theorem rix_lt (y : IVec S16 32) (x : S16.Idx) : (rix y x).toNat < 104 := by
  by_cases h : ok y x = 1#1
  · have h' := (ok_iff y x).1 h
    rw [rix_of_ok h]; have := rel_toNat h'; omega
  · rw [rix_of_not h]; decide

theorem cix_toNat (k : ℕ) (x : S16.Idx) : (cix k x).toNat = 16 * (k % 16) + (x 0).val := by
  have hx : (x 0).val < 16 := (x 0).isLt
  have hk : k % 16 < 16 := Nat.mod_lt _ (by decide)
  show (BitVec.ofNat 32 (16 * (k % 16)) + BitVec.ofNat 32 (0 * 16 + (x 0).val)).toNat = _
  rw [BitVec.toNat_add, BitVec.toNat_ofNat, BitVec.toNat_ofNat]; omega

theorem chk (y : IVec S16 32) (k : ℕ) : ∀ a x, ((![rix y, cix k] : Fin 2 → IVec S16 32) a x).toNat < S128x256.size a
  | 0, x => (rix_lt y x).trans (by decide)
  | 1, x => by
    show (cix k x).toNat < 256
    have hx : (x 0).val < 16 := (x 0).isLt
    have hk : k % 16 < 16 := Nat.mod_lt _ (by decide)
    rw [cix_toNat]; omega

variable [FloatOps F]

/-- The logits that a group takes out of the buffer `A`, zero in a lane whose class is not one of the tile's. -/
def pick (A : FVec F S128x256 .f32) (y : IVec S16 32) (k : ℕ) : FVec F S16 .f32 :=
  select (ok y) (loadIdx (e := .f32) A ![rix y, cix k] (chk y k)) (broadcast S16 (Scalar.ofBits .f32 0x00000000#32))

/-- `n` groups' logits out of the buffer `A`, from group `g`, added to `a` one after another. -/
def picks (A : FVec F S128x256 .f32) (Y : S512.Idx → BitVec 32) (g : ℕ) (a : FVec F S16 .f32) : ℕ → FVec F S16 .f32
  | 0 => a
  | n + 1 => addf (picks A Y g a n) (pick A (yg Y (g + n)) n)

/-- Sixteen zeros. -/
def zeros : FVec F S16 .f32 := broadcast S16 (Scalar.ofBits .f32 0x00000000#32)

/-- All thirty-two groups' logits. -/
def picked (A B : FVec F S128x256 .f32) (Y : S512.Idx → BitVec 32) : FVec F S16 .f32 := picks B Y 16 (picks A Y 0 zeros 16) 16

/-- Lane block `b` of row `k` of a buffer. -/
def blk (f : FVec F S64x128 .f32) (k b : ℕ) : Vec F S1x16 .f32 :=
  fun x => f (fun | ⟨0, _⟩ => (⟨k % 64, Nat.mod_lt _ (by decide)⟩ : Fin 64) | ⟨1, _⟩ => (⟨(16 * b + (x 1).val) % 128, Nat.mod_lt _ (by decide)⟩ : Fin 128))

/-- The difference of two buffers on that block. -/
def dif (f g : FVec F S64x128 .f32) (k b : ℕ) : FVec F S16 .f32 :=
  subf (shapeCast S16 (blk f k b) shapeCasts_S1x16_S16) (shapeCast S16 (blk g k b) shapeCasts_S1x16_S16)

/-- `n` blocks' squared differences on row `k`, added to `a`. -/
def rowSq (f g : FVec F S64x128 .f32) (k : ℕ) (a : FVec F S16 .f32) : ℕ → FVec F S16 .f32
  | 0 => a
  | n + 1 => addf (rowSq f g k a n) (mulf (dif f g k n) (dif f g k n))

/-- `n` rows' squared differences, added to `a`. -/
def rowsSq (f g : FVec F S64x128 .f32) (a : FVec F S16 .f32) : ℕ → FVec F S16 .f32
  | 0 => a
  | n + 1 => rowSq f g n (rowsSq f g a n) 8

end Values

end Cert.Proof.Center

end
-- ==== Proof.Picks.lean ====
/-
  The looked-up logits of a tile: the part of the tile's program from the first indexed load to the last, run once,
  with the value that it leaves.
-/
module

public import proofs.«01_k».proof.Proof.Setup

@[expose] public section

noncomputable section

namespace Cert.Proof.Center

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid0.Coords)

/-! ## A part of the printed program at the tile's own buffers -/

/-- A part, at the buffers and the counters that the launch gives it. -/
abbrev onBufs {β : grid0.Coords → Type 1} (f : (i : grid0.Coords) → (arg2 : Memref sig .scVector .hbm S16384x128 .f32) → arg2.IsWhole → (arg3 : Memref sig .scVector .hbm S1000x16384 .f32) → arg3.IsWhole
    → (arg4 : Memref sig .scVector .hbm S16384 .i32) → arg4.IsWhole → (arg5 : Memref sig .scVector .hbm S1000x128 .f32) → arg5.IsWhole → (arg6 : Memref sig .scVector .hbm S32x16 .f32) → arg6.IsWhole
    → (arg7 : Memref sig .scVector .vmem S512 .i32) → arg7.IsWhole → (arg8 : Memref sig .scVector .vmem S128x256 .f32) → arg8.IsWhole → (arg9 : Memref sig .scVector .vmem S128x256 .f32) → arg9.IsWhole
    → (arg10 : Memref sig .scVector .vmem S64x128 .f32) → arg10.IsWhole → (arg11 : Memref sig .scVector .vmem S64x128 .f32) → arg11.IsWhole → (arg12 : Memref sig .scVector .vmem S64x128 .f32) → arg12.IsWhole
    → (arg13 : Memref sig .scVector .vmem S64x128 .f32) → arg13.IsWhole → (arg14 : Memref sig .scVector .vmem S16 .f32) → arg14.IsWhole
    → DmaSems sig S_ → DmaSems sig S_ → DmaSems sig S_ → DmaSems sig S_ → DmaSems sig S_ → DmaSems sig S_ → DmaSems sig S_ → DmaSems sig S_ → β i) : β L :=
  f L fV (Memref.isWhole_whole _) lV (Memref.isWhole_whole _) yV (Memref.isWhole_whole _) cV (Memref.isWhole_whole _) oV (Memref.isWhole_whole _)
    yB (Memref.isWhole_whole _) lA (Memref.isWhole_whole _) lB (Memref.isWhole_whole _) fA (Memref.isWhole_whole _) fB (Memref.isWhole_whole _)
    gA (Memref.isWhole_whole _) gB (Memref.isWhole_whole _) oB (Memref.isWhole_whole _)
    cc0_scratch8 cc0_scratch9 cc0_scratch10 cc0_scratch11 cc0_scratch12 cc0_scratch13 cc0_scoped0 cc0_scoped1

/-! ## The buffers' contents, and the steps -/

abbrev yPt (Y : S512.Idx → BitVec 32) : sProp 𝕄 := (yB).view.loc (thr d L) ↦{fullShare} Y
abbrev lAPt (A : FVec F S128x256 .f32) : sProp 𝕄 := (lA).view.loc (thr d L) ↦{fullShare} A
abbrev lBPt (A : FVec F S128x256 .f32) : sProp 𝕄 := (lB).view.loc (thr d L) ↦{fullShare} A

theorem read_yg (Y : S512.Idx → BitVec 32) (o g : ℕ) (inb : ∀ a, (![o] : Fin 1 → ℕ) a + S16.size a ≤ S512.size a) (ho : o = 16 * g) :
    (yB).view.readAt (Elt F) (Rect.unit (s := S512) ![o] S16.size inb).toLoadRect Y = yg Y g := by
  subst ho
  funext x
  have h := inb 0
  have hx : (x 0).val < 16 := (x 0).isLt
  refine congrArg Y (funext fun a => ?_)
  match a with
  | ⟨0, _⟩ => exact Fin.ext (show 16 * g + 1 * (x 0).val = (16 * g + (x 0).val) % 512 from by rw [Nat.mod_eq_of_lt (show _ < 512 from by change 16 * g + 16 ≤ 512 at h; omega), one_mul])

variable {α : Type} {Q : α → sProp (MT nD τ sig (HIx 1) (Elt F) ℕ UU ℕ)}

/-- A load of group `g`'s labels. -/
theorem step_y {Y : S512.Idx → BitVec 32} {o : ℕ} (g : ℕ) {inb : ∀ a, (![o] : Fin 1 → ℕ) a + S16.size a ≤ S512.size a} (ho : o = 16 * g)
    {hl : (yB).view.LoadsAt (Rect.unit (s := S512) ![o] S16.size inb).toLoadRect}
    {k : Vec F S16 .i32 → Prog (TpuEff nD τ sig (Elt F) Λ₀ (thr d L).2) α} :
    (yPt d L Y : sProp 𝕄) ⊢ iprop((yPt d L Y -∗ wp frame (wpE (defs₀ (F := F)) 𝒱₀ (thr d L) none) Set.univ (k (yg Y g)) Q)
      -∗ wp frame (wpE (defs₀ (F := F)) 𝒱₀ (thr d L) none) Set.univ (.op (.load yB (Rect.unit (s := S512) ![o] S16.size inb).toLoadRect hl) k) Q) := by
  rw [← read_yg (F := F) Y o g inb ho]
  exact wp_load 𝒱₀ (thr d L) none Set.univ (m := yB) (S := Finset.univ) (Finset.subset_univ _)

/-- The indexed load of a buffer at a group's row and column words. -/
theorem step_gather (M : Memref sig .scVector .vmem S128x256 .f32) {f : Buf (Elt F) ((M.access (.whole S128x256)).loc (thr d L))} {A : FVec F S128x256 .f32}
    (hA : (M.access (.whole S128x256)).read (Elt F) f = A) (y : IVec S16 32) (g : ℕ)
    {hb : ∀ a x, ((![rix y, cix g] : Fin 2 → IVec S16 32) a x).toNat < S128x256.size a}
    {hl : M.view.Loads} {k : Vec F S16 .f32 → Prog (TpuEff nD τ sig (Elt F) Λ₀ (thr d L).2) α} :
    ((M.access (.whole S128x256)).loc (thr d L) ↦{fullShare} f : sProp 𝕄)
      ⊢ iprop((((M.access (.whole S128x256)).loc (thr d L) ↦{fullShare} f)
          -∗ wp frame (wpE (defs₀ (F := F)) 𝒱₀ (thr d L) none) Set.univ (k (loadIdx (e := .f32) A ![rix y, cix g] (chk y g))) Q)
      -∗ wp frame (wpE (defs₀ (F := F)) 𝒱₀ (thr d L) none) Set.univ (SparseCore.vectorLoadIdx M ![rix y, cix g] hb hl >>= k) Q) := by
  subst hA
  exact SparseCore.wp_vectorLoadIdx 𝒱₀ (thr d L) none Set.univ (base := M) (S := Finset.univ) (q := fullShare) (Finset.subset_univ _)

theorem step_A {A : FVec F S128x256 .f32} (y : IVec S16 32) (g : ℕ)
    {hb : ∀ a x, ((![rix y, cix g] : Fin 2 → IVec S16 32) a x).toNat < S128x256.size a}
    {hl : (lA).view.Loads} {k : Vec F S16 .f32 → Prog (TpuEff nD τ sig (Elt F) Λ₀ (thr d L).2) α} :
    (lAPt d L A : sProp 𝕄) ⊢ iprop((lAPt d L A -∗ wp frame (wpE (defs₀ (F := F)) 𝒱₀ (thr d L) none) Set.univ (k (loadIdx (e := .f32) A ![rix y, cix g] (chk y g))) Q)
      -∗ wp frame (wpE (defs₀ (F := F)) 𝒱₀ (thr d L) none) Set.univ (SparseCore.vectorLoadIdx lA ![rix y, cix g] hb hl >>= k) Q) :=
  step_gather d L lA (Memref.read_access_whole _ _ _) y g

theorem step_B {A : FVec F S128x256 .f32} (y : IVec S16 32) (g : ℕ)
    {hb : ∀ a x, ((![rix y, cix g] : Fin 2 → IVec S16 32) a x).toNat < S128x256.size a}
    {hl : (lB).view.Loads} {k : Vec F S16 .f32 → Prog (TpuEff nD τ sig (Elt F) Λ₀ (thr d L).2) α} :
    (lBPt d L A : sProp 𝕄) ⊢ iprop((lBPt d L A -∗ wp frame (wpE (defs₀ (F := F)) 𝒱₀ (thr d L) none) Set.univ (k (loadIdx (e := .f32) A ![rix y, cix g] (chk y g))) Q)
      -∗ wp frame (wpE (defs₀ (F := F)) 𝒱₀ (thr d L) none) Set.univ (SparseCore.vectorLoadIdx lB ![rix y, cix g] hb hl >>= k) Q) :=
  step_gather d L lB (Memref.read_access_whole _ _ _) y g

/-- A check that holds. -/
theorem step_chk {P : Prop} {dc : Decidable P} (h : P) {k : PLift P → Prog (TpuEff nD τ sig (Elt F) Λ₀ (thr d L).2) α} :
    wp frame (wpE (defs₀ (F := F)) 𝒱₀ (thr d L) none) Set.univ (k ⟨h⟩) Q ⊢ wp (M := 𝕄) frame (wpE (defs₀ (F := F)) 𝒱₀ (thr d L) none) Set.univ (.op (.assume P dc) k) Q :=
  Entails.of_eq (wp_assume_of _ _ _ _ h).symm

/-- A group out of `lA`: its check, its indexed load, and the load of the next group's labels. -/
theorem step_gA {Y : S512.Idx → BitVec 32} {A : FVec F S128x256 .f32} (g : ℕ) {o : ℕ} {P : Prop} {dc : Decidable P}
    {hb : PLift P → ∀ a x, ((![rix (yg Y g), cix g] : Fin 2 → IVec S16 32) a x).toNat < S128x256.size a}
    {inb : ∀ a, (![o] : Fin 1 → ℕ) a + S16.size a ≤ S512.size a} (hP : P) (ho : o = 16 * (g + 1))
    {hl : (lA).view.Loads} {hl' : (yB).view.LoadsAt (Rect.unit (s := S512) ![o] S16.size inb).toLoadRect}
    {k : Vec F S16 .f32 → Vec F S16 .i32 → Prog (TpuEff nD τ sig (Elt F) Λ₀ (thr d L).2) α} :
    iprop(yPt d L Y ∗ lAPt d L A) ⊢ iprop((iprop(yPt d L Y ∗ lAPt d L A) -∗ wp frame (wpE (defs₀ (F := F)) 𝒱₀ (thr d L) none) Set.univ
          (k (loadIdx (e := .f32) A ![rix (yg Y g), cix g] (chk (yg Y g) g)) (yg Y (g + 1))) Q)
      -∗ wp (M := 𝕄) frame (wpE (defs₀ (F := F)) 𝒱₀ (thr d L) none) Set.univ
          (.op (.assume P dc) fun h => SparseCore.vectorLoadIdx lA ![rix (yg Y g), cix g] (hb h) hl >>= fun v =>
            .op (.load yB (Rect.unit (s := S512) ![o] S16.size inb).toLoadRect hl') (k v)) Q) := by
  iintro ⟨Hy, HA⟩ Hk
  iapply (step_chk d L hP)
  iapply (step_A d L (yg Y g) g) $$ HA; iintro HA
  iapply (step_y d L (g + 1) ho) $$ Hy; iintro Hy
  iapply Hk; isplitl [Hy] <;> iassumption

/-- A group out of `lB`. -/
theorem step_gB {Y : S512.Idx → BitVec 32} {A : FVec F S128x256 .f32} (g : ℕ) {o : ℕ} {P : Prop} {dc : Decidable P}
    {hb : PLift P → ∀ a x, ((![rix (yg Y (16 + g)), cix g] : Fin 2 → IVec S16 32) a x).toNat < S128x256.size a}
    {inb : ∀ a, (![o] : Fin 1 → ℕ) a + S16.size a ≤ S512.size a} (hP : P) (ho : o = 16 * (16 + (g + 1)))
    {hl : (lB).view.Loads} {hl' : (yB).view.LoadsAt (Rect.unit (s := S512) ![o] S16.size inb).toLoadRect}
    {k : Vec F S16 .f32 → Vec F S16 .i32 → Prog (TpuEff nD τ sig (Elt F) Λ₀ (thr d L).2) α} :
    iprop(yPt d L Y ∗ lBPt d L A) ⊢ iprop((iprop(yPt d L Y ∗ lBPt d L A) -∗ wp frame (wpE (defs₀ (F := F)) 𝒱₀ (thr d L) none) Set.univ
          (k (loadIdx (e := .f32) A ![rix (yg Y (16 + g)), cix g] (chk (yg Y (16 + g)) g)) (yg Y (16 + (g + 1)))) Q)
      -∗ wp (M := 𝕄) frame (wpE (defs₀ (F := F)) 𝒱₀ (thr d L) none) Set.univ
          (.op (.assume P dc) fun h => SparseCore.vectorLoadIdx lB ![rix (yg Y (16 + g)), cix g] (hb h) hl >>= fun v =>
            .op (.load yB (Rect.unit (s := S512) ![o] S16.size inb).toLoadRect hl') (k v)) Q) := by
  iintro ⟨Hy, HA⟩ Hk
  iapply (step_chk d L hP)
  iapply (step_B d L (yg Y (16 + g)) g) $$ HA; iintro HA
  iapply (step_y d L (16 + (g + 1)) ho) $$ Hy; iintro Hy
  iapply Hk; isplitl [Hy] <;> iassumption

/-- What the tile owes: nothing more than at the start, but for waits of its own. -/
abbrev owing (O : CellTallies nD τ sig (HIx 1)) (W : Waits sig (HIx 1)) : sProp 𝕄 :=
  iprop(∃ W', ⌜∀ p ∈ W', p ∈ W ∨ p.2 = none⌝ ∗ owes (thr d L) O W')

/-- A wait for a copy or an indexed copy of the tile's own. -/
theorem step_wait {O : CellTallies nD τ sig (HIx 1)} (hO : ∀ g, O g none = 0) {W : Waits sig (HIx 1)}
    {s : Shape} {e : EltTy} {κ' : Kind} {sem : DmaSem sig} {N : ℕ} {b : Ref sig κ'} {hk : (thr d L).2 = .tc ∨ b.HasMemref s e}
    (hN : b.dmaCredit s e = N) {P : sProp (MT nD τ sig (HIx 1) (Elt F) ℕ UU ℕ)}
    {k : PUnit → Prog (TpuEff nD τ sig (Elt F) Λ₀ (thr d L).2) α} :
    iprop(levAts (K (F := F)).L (K (F := F)).lev ∗ Transfers.Flight countersEmb (thr d L) (.dma sem) default N P ∗ owing d L O W)
      ⊢ iprop((iprop(P ∗ semVal (thr d L, .dma sem) 0 ∗ owing d L O W) -∗ wp frame (wpE (defs₀ (F := F)) 𝒱₀ (thr d L) none) Set.univ (k ⟨⟩) Q)
      -∗ wp (M := 𝕄) frame (wpE (defs₀ (F := F)) 𝒱₀ (thr d L) none) Set.univ (.op (.waitDma sem b s e hk) k) Q) := by
  iintro ⟨#Hlv, Hfl, %W', %hW', HO⟩ Hk
  ihave Hmw := (show levAts (K (F := F)).L (K (F := F)).lev ⊢ Transfers.MayWaits (thr d L) (default : HIx 1) O from
    (K (F := F)).mayWaits_none (thr := thr d L) hO) $$ Hlv
  iapply (Transfers.wp_waitLocalOSized countersEmb 𝒱₀ (thr d L) none (default : HIx 1) hN) $$ [Hfl HO]
  · isplitl [Hfl]; · iexact Hfl
    isplitl [HO]; · iexact HO
    iapply (Transfers.MayWaits.elim (SemLoc.dma sem)) $$ Hmw
  iintro ⟨HP, Hs, HO⟩
  iapply Hk
  isplitl [HP]; · iexact HP
  isplitl [Hs]; · iexact Hs
  iexists _; isplitr
  swap; · iexact HO
  ipureintro; intro p hp
  rcases Finset.mem_insert.mp hp with hp | hp
  · exact .inr (hp ▸ rfl)
  · exact hW' p hp

/-! ## The parts, each with what it returns -/

/-- A part reading `lA` returns `r`. -/
abbrev RunsA (Y : S512.Idx → BitVec 32) (A : FVec F S128x256 .f32) {R : Type} (p : Prog (TpuEff nD τ sig (Elt F) Λ₀ (thr d L).2) R) (r : R) : Prop :=
  (iprop(yPt d L Y ∗ lAPt d L A) : sProp 𝕄) ⊢ wp frame (wpE (defs₀ (F := F)) 𝒱₀ (thr d L) none) Set.univ p
    fun r' => iprop(⌜r' = r⌝ ∗ yPt d L Y ∗ lAPt d L A)

/-- A part reading `lB` returns `r`. -/
abbrev RunsB (Y : S512.Idx → BitVec 32) (A : FVec F S128x256 .f32) {R : Type} (p : Prog (TpuEff nD τ sig (Elt F) Λ₀ (thr d L).2) R) (r : R) : Prop :=
  (iprop(yPt d L Y ∗ lBPt d L A) : sProp 𝕄) ⊢ wp frame (wpE (defs₀ (F := F)) 𝒱₀ (thr d L) none) Set.univ p
    fun r' => iprop(⌜r' = r⌝ ∗ yPt d L Y ∗ lBPt d L A)

/-- The lane numbers. -/
abbrev lanes : IVec S16 32 := iota .scVector S16 32 [0] iota_S16_d0_w32_scVector
/-- A word in every lane. -/
abbrev all (w : BitVec 32) : IVec S16 32 := broadcast S16 w

variable {Y : S512.Idx → BitVec 32} {A B : FVec F S128x256 .f32}

theorem part10 : RunsA d L Y A (onBufs L (k0_part10 (F := F)) lanes (k0_pay19 (F := F)) (rel (yg Y 0))) ⟨picks A Y 0 zeros 2, ok (yg Y 2), rix (yg Y 2), all 32#32⟩ := by
  unfold onBufs; simp only [k0_part10_eq_skeleton]; unfold k0_part10_skel
  iintro H; simp only [Prog.bind_lift, Prog.bind_op, Prog.bind_ret]
  iapply (step_gA d L 0 (chk (yg Y 0) 0) rfl) $$ H; iintro H
  iapply (step_gA d L 1 (chk (yg Y 1) 1) rfl) $$ H; iintro H
  sl_step; isplitr; · ipureintro; rfl
  iexact H

theorem part11 : RunsA d L Y A (onBufs L (k0_part11 (F := F)) lanes (picks A Y 0 zeros 2) (ok (yg Y 2)) (rix (yg Y 2)) (all 32#32)) ⟨picks A Y 0 zeros 5, rel (yg Y 5)⟩ := by
  unfold onBufs; simp only [k0_part11_eq_skeleton]; unfold k0_part11_skel
  iintro H; simp only [Prog.bind_lift, Prog.bind_op, Prog.bind_ret]
  iapply (step_gA d L 2 (chk (yg Y 2) 2) rfl) $$ H; iintro H
  iapply (step_gA d L 3 (chk (yg Y 3) 3) rfl) $$ H; iintro H
  iapply (step_gA d L 4 (chk (yg Y 4) 4) rfl) $$ H; iintro H
  sl_step; isplitr; · ipureintro; rfl
  iexact H

theorem part12 : RunsA d L Y A (onBufs L (k0_part12 (F := F)) lanes (picks A Y 0 zeros 5) (rel (yg Y 5))) ⟨picks A Y 0 zeros 7, ok (yg Y 7), rix (yg Y 7), all 112#32⟩ := by
  unfold onBufs; simp only [k0_part12_eq_skeleton]; unfold k0_part12_skel
  iintro H; simp only [Prog.bind_lift, Prog.bind_op, Prog.bind_ret]
  iapply (step_gA d L 5 (chk (yg Y 5) 5) rfl) $$ H; iintro H
  iapply (step_gA d L 6 (chk (yg Y 6) 6) rfl) $$ H; iintro H
  sl_step; isplitr; · ipureintro; rfl
  iexact H

theorem part13 : RunsA d L Y A (onBufs L (k0_part13 (F := F)) lanes (picks A Y 0 zeros 7) (ok (yg Y 7)) (rix (yg Y 7)) (all 112#32)) ⟨picks A Y 0 zeros 10, rel (yg Y 10)⟩ := by
  unfold onBufs; simp only [k0_part13_eq_skeleton]; unfold k0_part13_skel
  iintro H; simp only [Prog.bind_lift, Prog.bind_op, Prog.bind_ret]
  iapply (step_gA d L 7 (chk (yg Y 7) 7) rfl) $$ H; iintro H
  iapply (step_gA d L 8 (chk (yg Y 8) 8) rfl) $$ H; iintro H
  iapply (step_gA d L 9 (chk (yg Y 9) 9) rfl) $$ H; iintro H
  sl_step; isplitr; · ipureintro; rfl
  iexact H

theorem part14 : RunsA d L Y A (onBufs L (k0_part14 (F := F)) lanes (picks A Y 0 zeros 10) (rel (yg Y 10))) ⟨picks A Y 0 zeros 12, ok (yg Y 12), rix (yg Y 12), all 192#32⟩ := by
  unfold onBufs; simp only [k0_part14_eq_skeleton]; unfold k0_part14_skel
  iintro H; simp only [Prog.bind_lift, Prog.bind_op, Prog.bind_ret]
  iapply (step_gA d L 10 (chk (yg Y 10) 10) rfl) $$ H; iintro H
  iapply (step_gA d L 11 (chk (yg Y 11) 11) rfl) $$ H; iintro H
  sl_step; isplitr; · ipureintro; rfl
  iexact H

theorem part15 : RunsA d L Y A (onBufs L (k0_part15 (F := F)) lanes (picks A Y 0 zeros 12) (ok (yg Y 12)) (rix (yg Y 12)) (all 192#32)) ⟨picks A Y 0 zeros 15, rel (yg Y 15)⟩ := by
  unfold onBufs; simp only [k0_part15_eq_skeleton]; unfold k0_part15_skel
  iintro H; simp only [Prog.bind_lift, Prog.bind_op, Prog.bind_ret]
  iapply (step_gA d L 12 (chk (yg Y 12) 12) rfl) $$ H; iintro H
  iapply (step_gA d L 13 (chk (yg Y 13) 13) rfl) $$ H; iintro H
  iapply (step_gA d L 14 (chk (yg Y 14) 14) rfl) $$ H; iintro H
  sl_step; isplitr; · ipureintro; rfl
  iexact H

/-- The groups' logits after `n` groups of the second half. -/
abbrev picksB (A B : FVec F S128x256 .f32) (Y : S512.Idx → BitVec 32) (n : ℕ) : FVec F S16 .f32 := picks B Y 16 (picks A Y 0 zeros 16) n

/-- The last group out of `lA`, the wait for `lB`, and its first group. -/
theorem part16 {O : CellTallies nD τ sig (HIx 1)} (hO : ∀ g, O g none = 0) {W : Waits sig (HIx 1)} {N : ℕ}
    (hN : ((lB).slice (Rect.unit (s := S128x256) ![0, 0] S104x256.size inb_S128x256_S104x256_0_0) (fun _ => rfl)).view.dmaCredit = N)
    {R : sProp (MT nD τ sig (HIx 1) (Elt F) ℕ UU ℕ)} {v2 : BitVec 32} :
    iprop(levAts (K (F := F)).L (K (F := F)).lev ∗ (yPt d L Y ∗ lAPt d L A)
        ∗ Transfers.Flight countersEmb (thr d L) (.dma cc0_scratch9.sem) default N iprop(lBPt d L B ∗ R) ∗ owing d L O W)
      ⊢ wp frame (wpE (defs₀ (F := F)) 𝒱₀ (thr d L) none) Set.univ
          (onBufs L (k0_part16 (F := F)) v2 lanes (picks A Y 0 zeros 15) (rel (yg Y 15)))
          fun r => iprop(⌜r = ⟨picksB A B Y 1, yg Y 17, all 896#32⟩⌝ ∗ (yPt d L Y ∗ lBPt d L B) ∗ lAPt d L A
            ∗ R ∗ semVal (thr d L, .dma cc0_scratch9.sem) 0 ∗ owing d L O W) := by
  unfold onBufs; simp only [k0_part16_eq_skeleton]; unfold k0_part16_skel
  iintro ⟨#Hlv, ⟨Hy, HA⟩, Hfl, HO⟩; simp only [Prog.bind_lift, Prog.bind_op, Prog.bind_ret]
  iapply (step_chk d L (chk (yg Y 15) 15))
  iapply (step_A d L (yg Y 15) 15) $$ HA; iintro HA
  iapply (step_wait d L hO hN) $$ [Hfl HO]
  · isplitr; · iexact Hlv
    isplitl [Hfl] <;> iassumption
  iintro ⟨⟨HB, HR⟩, Hs, HO⟩
  iapply (step_y d L 16 rfl) $$ Hy; iintro Hy
  iapply (step_gB d L 0 (chk (yg Y (16 + 0)) 0) rfl) $$ [Hy HB]
  · isplitl [Hy] <;> iassumption
  iintro H
  sl_step; isplitr; · ipureintro; rfl
  isplitl [H]; · iexact H
  isplitl [HA]; · iexact HA
  isplitl [HR]; · iexact HR
  isplitl [Hs] <;> iassumption

variable (A)

theorem part17 : RunsB d L Y B (onBufs L (k0_part17 (F := F)) lanes (picksB A B Y 1) (yg Y (16 + 1)) (all 896#32)) ⟨(picksB A B Y 3), ok (yg Y (16 + 3)), rix (yg Y (16 + 3)), 48#32⟩ := by
  unfold onBufs; simp only [k0_part17_eq_skeleton]; unfold k0_part17_skel
  iintro H; simp only [Prog.bind_lift, Prog.bind_op, Prog.bind_ret]
  iapply (step_gB d L 1 (chk (yg Y (16 + 1)) 1) rfl) $$ H; iintro H
  iapply (step_gB d L 2 (chk (yg Y (16 + 2)) 2) rfl) $$ H; iintro H
  sl_step; isplitr; · ipureintro; rfl
  iexact H

theorem part18 : RunsB d L Y B (onBufs L (k0_part18 (F := F)) lanes (picksB A B Y 3) (ok (yg Y (16 + 3))) (rix (yg Y (16 + 3))) 48#32) ⟨(picksB A B Y 6), (yg Y (16 + 6)), all 896#32⟩ := by
  unfold onBufs; simp only [k0_part18_eq_skeleton]; unfold k0_part18_skel
  iintro H; simp only [Prog.bind_lift, Prog.bind_op, Prog.bind_ret]
  iapply (step_gB d L 3 (chk (yg Y (16 + 3)) 3) rfl) $$ H; iintro H
  iapply (step_gB d L 4 (chk (yg Y (16 + 4)) 4) rfl) $$ H; iintro H
  iapply (step_gB d L 5 (chk (yg Y (16 + 5)) 5) rfl) $$ H; iintro H
  sl_step; isplitr; · ipureintro; rfl
  iexact H

theorem part19 : RunsB d L Y B (onBufs L (k0_part19 (F := F)) lanes (picksB A B Y 6) (yg Y (16 + 6)) (all 896#32)) ⟨(picksB A B Y 8), ok (yg Y (16 + 8)), rix (yg Y (16 + 8)), 128#32⟩ := by
  unfold onBufs; simp only [k0_part19_eq_skeleton]; unfold k0_part19_skel
  iintro H; simp only [Prog.bind_lift, Prog.bind_op, Prog.bind_ret]
  iapply (step_gB d L 6 (chk (yg Y (16 + 6)) 6) rfl) $$ H; iintro H
  iapply (step_gB d L 7 (chk (yg Y (16 + 7)) 7) rfl) $$ H; iintro H
  sl_step; isplitr; · ipureintro; rfl
  iexact H

theorem part20 : RunsB d L Y B (onBufs L (k0_part20 (F := F)) lanes (picksB A B Y 8) (ok (yg Y (16 + 8))) (rix (yg Y (16 + 8))) 128#32) ⟨(picksB A B Y 11), (yg Y (16 + 11)), all 896#32⟩ := by
  unfold onBufs; simp only [k0_part20_eq_skeleton]; unfold k0_part20_skel
  iintro H; simp only [Prog.bind_lift, Prog.bind_op, Prog.bind_ret]
  iapply (step_gB d L 8 (chk (yg Y (16 + 8)) 8) rfl) $$ H; iintro H
  iapply (step_gB d L 9 (chk (yg Y (16 + 9)) 9) rfl) $$ H; iintro H
  iapply (step_gB d L 10 (chk (yg Y (16 + 10)) 10) rfl) $$ H; iintro H
  sl_step; isplitr; · ipureintro; rfl
  iexact H

theorem part21 : RunsB d L Y B (onBufs L (k0_part21 (F := F)) lanes (picksB A B Y 11) (yg Y (16 + 11)) (all 896#32)) ⟨(picksB A B Y 13), ok (yg Y (16 + 13)), rix (yg Y (16 + 13)), 208#32⟩ := by
  unfold onBufs; simp only [k0_part21_eq_skeleton]; unfold k0_part21_skel
  iintro H; simp only [Prog.bind_lift, Prog.bind_op, Prog.bind_ret]
  iapply (step_gB d L 11 (chk (yg Y (16 + 11)) 11) rfl) $$ H; iintro H
  iapply (step_gB d L 12 (chk (yg Y (16 + 12)) 12) rfl) $$ H; iintro H
  sl_step; isplitr; · ipureintro; rfl
  iexact H

theorem part22 {v2 : BitVec 32} : RunsB d L Y B (onBufs L (k0_part22 (F := F)) v2 lanes (picksB A B Y 13) (ok (yg Y (16 + 13))) (rix (yg Y (16 + 13))) 208#32) (picked A B Y) := by
  unfold onBufs; simp only [k0_part22_eq_skeleton]; unfold k0_part22_skel
  iintro H; simp only [Prog.bind_lift, Prog.bind_op, Prog.bind_ret]
  iapply (step_gB d L 13 (chk (yg Y (16 + 13)) 13) rfl) $$ H; iintro H
  iapply (step_gB d L 14 (chk (yg Y (16 + 14)) 14) rfl) $$ H; iintro ⟨Hy, HB⟩
  iapply (step_chk d L (chk (yg Y (16 + 15)) 15))
  iapply (step_B d L (yg Y (16 + 15)) 15) $$ HB; iintro HB
  sl_step; isplitr; · ipureintro; rfl
  isplitl [Hy] <;> iassumption

end Cert.Proof.Center

end
-- ==== Proof.Loops.lean ====
/-
  The eight counted loops of a tile: each adds the squared differences of sixty-four rows of two buffers, eight lane
  blocks a row.
-/
module

public import proofs.«01_k».proof.Proof.Picks

@[expose] public section

noncomputable section

namespace Cert.Proof.Center

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid0.Coords)
variable {α : Type} {Q : α → sProp (MT nD τ sig (HIx 1) (Elt F) ℕ UU ℕ)}

/-! ## Rows and lane blocks -/

theorem iv_nat {n : ℕ} (t : Fin n) (hn : n ≤ 64) : (Scalar.indexCast (Scf.iv 0#32 1#32 t.val) : Index).toNat = t.val := by
  have := t.isLt
  show (0#32 + BitVec.ofNat 32 t.val * 1#32).toNat = t.val
  rw [BitVec.zero_add, BitVec.mul_one, BitVec.toNat_ofNat]; omega

/-- The place of trip `t`'s lane block `b`. -/
theorem place {n : ℕ} (t : Fin n) (hn : n ≤ 64) (b : ℕ) :
    (![(Scalar.indexCast (Scf.iv 0#32 1#32 t.val) : Index).toNat, 16 * b] : Fin 2 → ℕ) = ![t.val, 16 * b] := by rw [iv_nat t hn]

/-- A lane block read through a view. -/
theorem read_blk {M : Memref sig .scVector .vmem S64x128 .f32} {f : Buf (Elt F) (M.view.loc (thr d L))} {φ : FVec F S64x128 .f32}
    (hf : M.view.read (Elt F) f = φ) {o : Fin 2 → ℕ} {inb : ∀ a, o a + S1x16.size a ≤ S64x128.size a} {k b : ℕ} (ho : o = ![k, 16 * b]) :
    M.view.readAt (Elt F) (Rect.unit (s := S64x128) o S1x16.size inb).toLoadRect f = blk φ k b := by
  subst hf; subst ho
  have h0 : k + 1 ≤ 64 := inb 0
  have h1 : 16 * b + 16 ≤ 128 := inb 1
  funext x
  have hx0 : (x 0).val < 1 := (x 0).isLt
  have hx : (x 1).val < 16 := (x 1).isLt
  refine congrArg (M.view.read (Elt F) f) (funext fun a => ?_)
  match a with
  | ⟨0, _⟩ => exact Fin.ext (show k + 1 * (x 0).val = k % 64 by omega)
  | ⟨1, _⟩ => exact Fin.ext (show 16 * b + 1 * (x 1).val = (16 * b + (x 1).val) % 128 by omega)

section Pair

variable {M N : Memref sig .scVector .vmem S64x128 .f32}
  {f : Buf (Elt F) (M.view.loc (thr d L))} {g : Buf (Elt F) (N.view.loc (thr d L))} {φ γ : FVec F S64x128 .f32}

/-- A block of each of two buffers. -/
theorem step_pair (hf : M.view.read (Elt F) f = φ) (hg : N.view.read (Elt F) g = γ) {o : Fin 2 → ℕ} {inb : ∀ a, o a + S1x16.size a ≤ S64x128.size a}
    {k b : ℕ} (ho : o = ![k, 16 * b])
    {hl : M.view.LoadsAt (Rect.unit (s := S64x128) o S1x16.size inb).toLoadRect} {hl' : N.view.LoadsAt (Rect.unit (s := S64x128) o S1x16.size inb).toLoadRect}
    {kk : Vec F S1x16 .f32 → Vec F S1x16 .f32 → Prog (TpuEff nD τ sig (Elt F) Λ₀ (thr d L).2) α} :
    iprop((M.view.loc (thr d L) ↦{fullShare} f) ∗ (N.view.loc (thr d L) ↦{fullShare} g))
      ⊢ iprop((iprop((M.view.loc (thr d L) ↦{fullShare} f) ∗ (N.view.loc (thr d L) ↦{fullShare} g))
          -∗ wp frame (wpE (defs₀ (F := F)) 𝒱₀ (thr d L) none) Set.univ (kk (blk φ k b) (blk γ k b)) Q)
        -∗ wp (M := 𝕄) frame (wpE (defs₀ (F := F)) 𝒱₀ (thr d L) none) Set.univ
          (.op (.load M (Rect.unit (s := S64x128) o S1x16.size inb).toLoadRect hl) fun v =>
            .op (.load N (Rect.unit (s := S64x128) o S1x16.size inb).toLoadRect hl') (kk v)) Q) := by
  rw [← read_blk d L hf (inb := inb) ho, ← read_blk d L hg (inb := inb) ho]
  iintro ⟨Hf, Hg⟩ Hk
  iapply (wp_load 𝒱₀ (thr d L) none Set.univ (m := M) (S := Finset.univ) (Finset.subset_univ _)) $$ Hf; iintro Hf
  iapply (wp_load 𝒱₀ (thr d L) none Set.univ (m := N) (S := Finset.univ) (Finset.subset_univ _)) $$ Hg; iintro Hg
  iapply Hk; isplitl [Hf] <;> iassumption

/-- A row's eight blocks of each of two buffers. -/
theorem step_row {o0 o1 o2 o3 o4 o5 o6 o7 : Fin 2 → ℕ} {n : ℕ} (t : Fin n) (hn : n ≤ 64)
    (h0 : o0 = ![(Scalar.indexCast (Scf.iv 0#32 1#32 t.val) : Index).toNat, 16 * 0]) (h1 : o1 = ![(o0 0), 16 * 1]) (h2 : o2 = ![(o0 0), 16 * 2])
     (h3 : o3 = ![(o0 0), 16 * 3]) (h4 : o4 = ![(o0 0), 16 * 4]) (h5 : o5 = ![(o0 0), 16 * 5])
     (h6 : o6 = ![(o0 0), 16 * 6]) (h7 : o7 = ![(o0 0), 16 * 7])
    {b0 : ∀ a, o0 a + S1x16.size a ≤ S64x128.size a} {l0 : M.view.LoadsAt (Rect.unit (s := S64x128) o0 S1x16.size b0).toLoadRect} {m0 : N.view.LoadsAt (Rect.unit (s := S64x128) o0 S1x16.size b0).toLoadRect}
    {b1 : ∀ a, o1 a + S1x16.size a ≤ S64x128.size a} {l1 : M.view.LoadsAt (Rect.unit (s := S64x128) o1 S1x16.size b1).toLoadRect} {m1 : N.view.LoadsAt (Rect.unit (s := S64x128) o1 S1x16.size b1).toLoadRect}
    {b2 : ∀ a, o2 a + S1x16.size a ≤ S64x128.size a} {l2 : M.view.LoadsAt (Rect.unit (s := S64x128) o2 S1x16.size b2).toLoadRect} {m2 : N.view.LoadsAt (Rect.unit (s := S64x128) o2 S1x16.size b2).toLoadRect}
    {b3 : ∀ a, o3 a + S1x16.size a ≤ S64x128.size a} {l3 : M.view.LoadsAt (Rect.unit (s := S64x128) o3 S1x16.size b3).toLoadRect} {m3 : N.view.LoadsAt (Rect.unit (s := S64x128) o3 S1x16.size b3).toLoadRect}
    {b4 : ∀ a, o4 a + S1x16.size a ≤ S64x128.size a} {l4 : M.view.LoadsAt (Rect.unit (s := S64x128) o4 S1x16.size b4).toLoadRect} {m4 : N.view.LoadsAt (Rect.unit (s := S64x128) o4 S1x16.size b4).toLoadRect}
    {b5 : ∀ a, o5 a + S1x16.size a ≤ S64x128.size a} {l5 : M.view.LoadsAt (Rect.unit (s := S64x128) o5 S1x16.size b5).toLoadRect} {m5 : N.view.LoadsAt (Rect.unit (s := S64x128) o5 S1x16.size b5).toLoadRect}
    {b6 : ∀ a, o6 a + S1x16.size a ≤ S64x128.size a} {l6 : M.view.LoadsAt (Rect.unit (s := S64x128) o6 S1x16.size b6).toLoadRect} {m6 : N.view.LoadsAt (Rect.unit (s := S64x128) o6 S1x16.size b6).toLoadRect}
    {b7 : ∀ a, o7 a + S1x16.size a ≤ S64x128.size a} {l7 : M.view.LoadsAt (Rect.unit (s := S64x128) o7 S1x16.size b7).toLoadRect} {m7 : N.view.LoadsAt (Rect.unit (s := S64x128) o7 S1x16.size b7).toLoadRect}
    (hf : M.view.read (Elt F) f = φ) (hg : N.view.read (Elt F) g = γ)
    {kk : Vec F S1x16 .f32 → Vec F S1x16 .f32 → Vec F S1x16 .f32 → Vec F S1x16 .f32 → Vec F S1x16 .f32 → Vec F S1x16 .f32 → Vec F S1x16 .f32 → Vec F S1x16 .f32 → Vec F S1x16 .f32 → Vec F S1x16 .f32 → Vec F S1x16 .f32 → Vec F S1x16 .f32 → Vec F S1x16 .f32 → Vec F S1x16 .f32 → Vec F S1x16 .f32 → Vec F S1x16 .f32 → Prog (TpuEff nD τ sig (Elt F) Λ₀ (thr d L).2) α} :
    iprop((M.view.loc (thr d L) ↦{fullShare} f) ∗ (N.view.loc (thr d L) ↦{fullShare} g))
      ⊢ iprop((iprop((M.view.loc (thr d L) ↦{fullShare} f) ∗ (N.view.loc (thr d L) ↦{fullShare} g))
          -∗ wp frame (wpE (defs₀ (F := F)) 𝒱₀ (thr d L) none) Set.univ
            (kk (blk φ t.val 0) (blk γ t.val 0) (blk φ t.val 1) (blk γ t.val 1) (blk φ t.val 2) (blk γ t.val 2) (blk φ t.val 3) (blk γ t.val 3) (blk φ t.val 4) (blk γ t.val 4) (blk φ t.val 5) (blk γ t.val 5) (blk φ t.val 6) (blk γ t.val 6) (blk φ t.val 7) (blk γ t.val 7)) Q)
        -∗ wp (M := 𝕄) frame (wpE (defs₀ (F := F)) 𝒱₀ (thr d L) none) Set.univ
          (.op (.load M (Rect.unit (s := S64x128) o0 S1x16.size b0).toLoadRect l0) fun x0 => .op (.load N (Rect.unit (s := S64x128) o0 S1x16.size b0).toLoadRect m0) fun y0 =>
          (.op (.load M (Rect.unit (s := S64x128) o1 S1x16.size b1).toLoadRect l1) fun x1 => .op (.load N (Rect.unit (s := S64x128) o1 S1x16.size b1).toLoadRect m1) fun y1 =>
          (.op (.load M (Rect.unit (s := S64x128) o2 S1x16.size b2).toLoadRect l2) fun x2 => .op (.load N (Rect.unit (s := S64x128) o2 S1x16.size b2).toLoadRect m2) fun y2 =>
          (.op (.load M (Rect.unit (s := S64x128) o3 S1x16.size b3).toLoadRect l3) fun x3 => .op (.load N (Rect.unit (s := S64x128) o3 S1x16.size b3).toLoadRect m3) fun y3 =>
          (.op (.load M (Rect.unit (s := S64x128) o4 S1x16.size b4).toLoadRect l4) fun x4 => .op (.load N (Rect.unit (s := S64x128) o4 S1x16.size b4).toLoadRect m4) fun y4 =>
          (.op (.load M (Rect.unit (s := S64x128) o5 S1x16.size b5).toLoadRect l5) fun x5 => .op (.load N (Rect.unit (s := S64x128) o5 S1x16.size b5).toLoadRect m5) fun y5 =>
          (.op (.load M (Rect.unit (s := S64x128) o6 S1x16.size b6).toLoadRect l6) fun x6 => .op (.load N (Rect.unit (s := S64x128) o6 S1x16.size b6).toLoadRect m6) fun y6 =>
          (.op (.load M (Rect.unit (s := S64x128) o7 S1x16.size b7).toLoadRect l7) fun x7 => .op (.load N (Rect.unit (s := S64x128) o7 S1x16.size b7).toLoadRect m7) fun y7 =>
          kk x0 y0 x1 y1 x2 y2 x3 y3 x4 y4 x5 y5 x6 y6 x7 y7)))))))) Q) := by
  have e0 : o0 0 = t.val := by rw [h0]; exact iv_nat t hn
  rw [e0] at h1 h2 h3 h4 h5 h6 h7
  rw [iv_nat t hn] at h0
  iintro H Hk
  iapply (step_pair d L (M := M) (N := N) hf hg h0) $$ H; iintro H
  iapply (step_pair d L (M := M) (N := N) hf hg h1) $$ H; iintro H
  iapply (step_pair d L (M := M) (N := N) hf hg h2) $$ H; iintro H
  iapply (step_pair d L (M := M) (N := N) hf hg h3) $$ H; iintro H
  iapply (step_pair d L (M := M) (N := N) hf hg h4) $$ H; iintro H
  iapply (step_pair d L (M := M) (N := N) hf hg h5) $$ H; iintro H
  iapply (step_pair d L (M := M) (N := N) hf hg h6) $$ H; iintro H
  iapply (step_pair d L (M := M) (N := N) hf hg h7) $$ H; iintro H
  iapply Hk; iexact H

/-- What one trip of a loop over the buffers `M` and `N` does. -/
abbrev Trip (M N : Memref sig .scVector .vmem S64x128 .f32) (f : Buf (Elt F) (M.view.loc (thr d L))) (g : Buf (Elt F) (N.view.loc (thr d L)))
    (φ γ : FVec F S64x128 .f32) (t : ℕ) (a : FVec F S16 .f32) (p : Prog (TpuEff nD τ sig (Elt F) Λ₀ (thr d L).2) (FVec F S16 .f32)) : Prop :=
  (iprop((M.view.loc (thr d L) ↦{fullShare} f) ∗ (N.view.loc (thr d L) ↦{fullShare} g)) : sProp 𝕄)
    ⊢ wp frame (wpE (defs₀ (F := F)) 𝒱₀ (thr d L) none) Set.univ p
      fun r => iprop(⌜r = rowSq φ γ t a 8⌝ ∗ (M.view.loc (thr d L) ↦{fullShare} f) ∗ (N.view.loc (thr d L) ↦{fullShare} g))

/-- A loop at the head of a program, from its trips. -/
theorem step_loop {l : Scf.Loop 32} (hok : l.OK) (hn : l.trips = 64) {a : FVec F S16 .f32}
    {body : Fin l.trips → FVec F S16 .f32 → Prog (TpuEff nD τ sig (Elt F) Λ₀ (thr d L).2) (FVec F S16 .f32)}
    (hb : ∀ t a, Trip d L M N f g φ γ t.val a (body t a)) {kk : FVec F S16 .f32 → Prog (TpuEff nD τ sig (Elt F) Λ₀ (thr d L).2) α} :
    iprop((M.view.loc (thr d L) ↦{fullShare} f) ∗ (N.view.loc (thr d L) ↦{fullShare} g))
      ⊢ iprop((iprop((M.view.loc (thr d L) ↦{fullShare} f) ∗ (N.view.loc (thr d L) ↦{fullShare} g))
          -∗ wp frame (wpE (defs₀ (F := F)) 𝒱₀ (thr d L) none) Set.univ (kk (rowsSq φ γ a 64)) Q)
        -∗ wp (M := 𝕄) frame (wpE (defs₀ (F := F)) 𝒱₀ (thr d L) none) Set.univ (Scf.Loop.for l hok a body >>= kk) Q) := by
  iintro H Hk
  iapply (Scf.wp_for_bind frame (wpE (defs₀ (F := F)) 𝒱₀ (thr d L) none) Set.univ l.lb l.ub l.st hok a body
    (fun n r => iprop(⌜r = rowsSq φ γ a n⌝ ∗ (M.view.loc (thr d L) ↦{fullShare} f) ∗ (N.view.loc (thr d L) ↦{fullShare} g))) ?_) $$ [H]
  · intro t r
    iintro ⟨%hr, H⟩
    subst hr
    iapply (hb t (rowsSq φ γ a t.val)); iexact H
  · isplitr; · ipureintro; rfl
    iexact H
  iintro %r ⟨%hr, H⟩
  subst hr
  rw [show Scf.trips l.lb l.ub l.st = 64 from hn]
  iapply Hk; iexact H

end Pair

/-! ## The loops -/

abbrev fAPt (f : FVec F S64x128 .f32) : sProp 𝕄 := (fA).view.loc (thr d L) ↦{fullShare} f
abbrev fBPt (f : FVec F S64x128 .f32) : sProp 𝕄 := (fB).view.loc (thr d L) ↦{fullShare} f
abbrev gAPt (f : FVec F S64x128 .f32) : sProp 𝕄 := (gA).view.loc (thr d L) ↦{fullShare} f
abbrev gBPt (f : FVec F S64x128 .f32) : sProp 𝕄 := (gB).view.loc (thr d L) ↦{fullShare} f

variable (f g : FVec F S64x128 .f32) {v2 : BitVec 32} {w : FVec F S16 .f32}

theorem trip1 (t : Fin k0_t1_loop.trips) (a : FVec F S16 .f32) :
    Trip d L fA gA f g f g t.val a (onBufs L (k0_t1_body (F := F)) v2 t a) := by
  have hn : k0_t1_loop.trips ≤ 64 := k0_t1_abs.2.1
  unfold onBufs k0_t1_body; simp only [k0_part1_eq_skeleton]; unfold k0_part1_skel
  iintro H; simp only [Prog.bind_lift, Prog.bind_op, Prog.bind_ret, Prog.pure_eq_ret]
  iapply (step_row d L (M := fA) (N := gA) (f := f) (g := g) t hn rfl rfl rfl rfl rfl rfl rfl rfl rfl rfl) $$ H; iintro H
  sl_step; isplitr; · ipureintro; rfl
  iexact H

theorem trip2 (t : Fin k0_t2_loop.trips) (a : FVec F S16 .f32) :
    Trip d L fB gB f g f g t.val a (onBufs L (k0_t2_body (F := F)) v2 w t a) := by
  have hn : k0_t2_loop.trips ≤ 64 := k0_t2_abs.2.1
  unfold onBufs k0_t2_body; simp only [k0_part2_eq_skeleton]; unfold k0_part2_skel
  iintro H; simp only [Prog.bind_lift, Prog.bind_op, Prog.bind_ret, Prog.pure_eq_ret]
  iapply (step_row d L (M := fB) (N := gB) (f := f) (g := g) t hn rfl rfl rfl rfl rfl rfl rfl rfl rfl rfl) $$ H; iintro H
  sl_step; isplitr; · ipureintro; rfl
  iexact H

theorem trip3 (t : Fin k0_t3_loop.trips) (a : FVec F S16 .f32) :
    Trip d L fA gA f g f g t.val a (onBufs L (k0_t3_body (F := F)) v2 w t a) := by
  have hn : k0_t3_loop.trips ≤ 64 := k0_t3_abs.2.1
  unfold onBufs k0_t3_body; simp only [k0_part3_eq_skeleton]; unfold k0_part3_skel
  iintro H; simp only [Prog.bind_lift, Prog.bind_op, Prog.bind_ret, Prog.pure_eq_ret]
  iapply (step_row d L (M := fA) (N := gA) (f := f) (g := g) t hn rfl rfl rfl rfl rfl rfl rfl rfl rfl rfl) $$ H; iintro H
  sl_step; isplitr; · ipureintro; rfl
  iexact H

theorem trip4 (t : Fin k0_t4_loop.trips) (a : FVec F S16 .f32) :
    Trip d L fB gB f g f g t.val a (onBufs L (k0_t4_body (F := F)) v2 w t a) := by
  have hn : k0_t4_loop.trips ≤ 64 := k0_t4_abs.2.1
  unfold onBufs k0_t4_body; simp only [k0_part4_eq_skeleton]; unfold k0_part4_skel
  iintro H; simp only [Prog.bind_lift, Prog.bind_op, Prog.bind_ret, Prog.pure_eq_ret]
  iapply (step_row d L (M := fB) (N := gB) (f := f) (g := g) t hn rfl rfl rfl rfl rfl rfl rfl rfl rfl rfl) $$ H; iintro H
  sl_step; isplitr; · ipureintro; rfl
  iexact H

theorem trip5 (t : Fin k0_t5_loop.trips) (a : FVec F S16 .f32) :
    Trip d L fA gA f g f g t.val a (onBufs L (k0_t5_body (F := F)) v2 w t a) := by
  have hn : k0_t5_loop.trips ≤ 64 := k0_t5_abs.2.1
  unfold onBufs k0_t5_body; simp only [k0_part5_eq_skeleton]; unfold k0_part5_skel
  iintro H; simp only [Prog.bind_lift, Prog.bind_op, Prog.bind_ret, Prog.pure_eq_ret]
  iapply (step_row d L (M := fA) (N := gA) (f := f) (g := g) t hn rfl rfl rfl rfl rfl rfl rfl rfl rfl rfl) $$ H; iintro H
  sl_step; isplitr; · ipureintro; rfl
  iexact H

theorem trip6 (t : Fin k0_t6_loop.trips) (a : FVec F S16 .f32) :
    Trip d L fB gB f g f g t.val a (onBufs L (k0_t6_body (F := F)) v2 w t a) := by
  have hn : k0_t6_loop.trips ≤ 64 := k0_t6_abs.2.1
  unfold onBufs k0_t6_body; simp only [k0_part6_eq_skeleton]; unfold k0_part6_skel
  iintro H; simp only [Prog.bind_lift, Prog.bind_op, Prog.bind_ret, Prog.pure_eq_ret]
  iapply (step_row d L (M := fB) (N := gB) (f := f) (g := g) t hn rfl rfl rfl rfl rfl rfl rfl rfl rfl rfl) $$ H; iintro H
  sl_step; isplitr; · ipureintro; rfl
  iexact H

theorem trip7 (t : Fin k0_t7_loop.trips) (a : FVec F S16 .f32) :
    Trip d L fA gA f g f g t.val a (onBufs L (k0_t7_body (F := F)) v2 w t a) := by
  have hn : k0_t7_loop.trips ≤ 64 := k0_t7_abs.2.1
  unfold onBufs k0_t7_body; simp only [k0_part7_eq_skeleton]; unfold k0_part7_skel
  iintro H; simp only [Prog.bind_lift, Prog.bind_op, Prog.bind_ret, Prog.pure_eq_ret]
  iapply (step_row d L (M := fA) (N := gA) (f := f) (g := g) t hn rfl rfl rfl rfl rfl rfl rfl rfl rfl rfl) $$ H; iintro H
  sl_step; isplitr; · ipureintro; rfl
  iexact H

theorem trip8 (t : Fin k0_t8_loop.trips) (a : FVec F S16 .f32) :
    Trip d L fB gB f g f g t.val a (onBufs L (k0_t8_body (F := F))  t a) := by
  have hn : k0_t8_loop.trips ≤ 64 := k0_t8_abs.2.1
  unfold onBufs k0_t8_body; simp only [k0_part8_eq_skeleton]; unfold k0_part8_skel
  iintro H; simp only [Prog.bind_lift, Prog.bind_op, Prog.bind_ret, Prog.pure_eq_ret]
  iapply (step_row d L (M := fB) (N := gB) (f := f) (g := g) t hn rfl rfl rfl rfl rfl rfl rfl rfl rfl rfl) $$ H; iintro H
  sl_step; isplitr; · ipureintro; rfl
  iexact H

end Cert.Proof.Center

end
-- ==== Proof.Chunks.lean ====
/-
The tile's copies: a block of features, a block of gathered centers, each issued and later waited for.
-/
module

public import proofs.«01_k».proof.Proof.Loops
public import Idealize.ShloMosaic.Lib.ShareLeaves

@[expose] public section

noncomputable section

namespace Cert.Proof.Center

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (d : Dev nD) (L : grid0.Coords)
variable {α : Type} {Q : α → sProp (MT nD τ sig (HIx 1) (Elt F) ℕ UU ℕ)}

/-! ## A copy, with a share of the whole source kept on both sides of it -/

section Copy

variable {sp sp' : Space} {s : Shape} {e : EltTy}

/-- A copy in flight: what the wait will hand back, and the rest of the source's array at the same share. -/
abbrev Copying (src : Memref sig .scVector sp s e) (dst : Memref sig .scVector sp' s e) (sem : DmaSem sig)
    (Sd : Finset (Idx (dst.view.loc (thr d L)))) (fd : Buf (Elt F) (dst.view.loc (thr d L))) (q : PosShare TreeShare)
    (fs : Buf (Elt F) (src.view.loc (thr d L))) : sProp (MT nD τ sig (HIx 1) (Elt F) ℕ UU ℕ) :=
  iprop(Transfers.Flight countersEmb (thr d L) (.dma sem) (default : HIx 1) dst.view.dmaCredit
      iprop((dst.view.loc (thr d L) ↦[Sd]{fullShare} (dst.view.write (Elt F) fd (src.view.read (Elt F) fs) Finset.univ))
        ∗ (src.view.loc (thr d L) ↦[src.view.set]{q} fs))
    ∗ (src.view.loc (thr d L) ↦[Finset.univ \ src.view.set]{q} fs))

/-- The copy issued. -/
theorem step_copy {src : Memref sig .scVector sp s e} {dst : Memref sig .scVector sp' s e} {sem : DmaSem sig}
    {h1 : src.view.WordExact} {h2 : dst.view.WordExact} {h3 : DmaTarget.Typed (nD := nD) (τ := τ) (p := (thr d L).2) sp (SemLoc.dma sem) (.here dst)}
    {k : PUnit → Prog (TpuEff nD τ sig (Elt F) Λ₀ (thr d L).2) α}
    {Sd : Finset (Idx (dst.view.loc (thr d L)))} {fd : Buf (Elt F) (dst.view.loc (thr d L))} {q : PosShare TreeShare}
    {fs : Buf (Elt F) (src.view.loc (thr d L))} (hN : 0 < dst.view.dmaCredit) (hS : dst.view.set ⊆ Sd) :
    iprop((src.view.loc (thr d L) ↦{q} fs) ∗ (dst.view.loc (thr d L) ↦[Sd]{fullShare} fd) ∗ semVal (thr d L, .dma sem) 0)
      ⊢ iprop((Copying d L src dst sem Sd fd q fs -∗ wp frame (wpE (defs₀ (F := F)) 𝒱₀ (thr d L) none) Set.univ (k ⟨⟩) Q)
        -∗ wp (M := 𝕄) frame (wpE (defs₀ (F := F)) 𝒱₀ (thr d L) none) Set.univ
            (.op (.enqueueDma src (.here dst) (.dma sem) h1 h2 h3) k) Q) := by
  iintro ⟨Hs, Hd, Hv⟩ Hk
  ihave Hs := (pointsTo_split_subset (Finset.subset_univ src.view.set)).1 $$ Hs
  icases Hs with ⟨Hs, Hr⟩
  iapply (Transfers.wp_dmaLocal countersEmb 𝒱₀ (thr d L) none (default : HIx 1) dst.view.dmaCredit rfl hN hS) $$ [Hs Hd Hv]
  · isplitl [Hs]; · iexact Hs
    isplitl [Hd] <;> iassumption
  iintro Hf
  iapply Hk
  isplitl [Hf]; · iexact Hf
  iexact Hr

/-- The copy waited for. -/
theorem step_copied {O : CellTallies nD τ sig (HIx 1)} (hO : ∀ g, O g none = 0) {W : Waits sig (HIx 1)}
    {src : Memref sig .scVector sp s e} {dst : Memref sig .scVector sp' s e} {sem : DmaSem sig}
    {hk : (thr d L).2 = .tc ∨ dst.view.ref.HasMemref s e}
    {k : PUnit → Prog (TpuEff nD τ sig (Elt F) Λ₀ (thr d L).2) α}
    {Sd : Finset (Idx (dst.view.loc (thr d L)))} {fd : Buf (Elt F) (dst.view.loc (thr d L))} {q : PosShare TreeShare}
    {fs : Buf (Elt F) (src.view.loc (thr d L))} :
    iprop(levAts (K (F := F)).L (K (F := F)).lev ∗ Copying d L src dst sem Sd fd q fs ∗ owing d L O W)
      ⊢ iprop((iprop((dst.view.loc (thr d L) ↦[Sd]{fullShare} (dst.view.write (Elt F) fd (src.view.read (Elt F) fs) Finset.univ))
            ∗ (src.view.loc (thr d L) ↦{q} fs) ∗ semVal (thr d L, .dma sem) 0 ∗ owing d L O W)
          -∗ wp frame (wpE (defs₀ (F := F)) 𝒱₀ (thr d L) none) Set.univ (k ⟨⟩) Q)
        -∗ wp (M := 𝕄) frame (wpE (defs₀ (F := F)) 𝒱₀ (thr d L) none) Set.univ (.op (.waitDma sem dst.view.ref s e hk) k) Q) := by
  iintro ⟨#Hlv, ⟨Hf, Hr⟩, HO⟩ Hk
  iapply (step_wait d L hO (N := dst.view.dmaCredit) rfl) $$ [Hf HO]
  · isplitr; · iexact Hlv
    isplitl [Hf] <;> iassumption
  iintro ⟨⟨Hd, Hs⟩, Hv, HO⟩
  iapply Hk
  isplitl [Hd]; · iexact Hd
  isplitl [Hs Hr]
  · iapply (pointsTo_split_subset (Finset.subset_univ src.view.set)).2
    isplitl [Hs] <;> iassumption
  isplitl [Hv] <;> iassumption

end Copy

/-! ## Where the tile's slices lie -/

/-- The first row of the batch the tile works on. -/
abbrev base (L : grid0.Coords) : ℕ := 1024 * (L 1).val + 512 * (L 0).val

theorem base_lt (L : grid0.Coords) : base L + 512 ≤ 16384 := by
  have h0 : (L 0).val < 2 := (L 0).isLt
  have h1 : (L 1).val < 16 := (L 1).isLt
  unfold base; omega

/-- Row `x` of the tile's batch, as a row of the whole. -/
def brow (L : grid0.Coords) (n : ℕ) : Fin 16384 := ⟨(base L + n) % 16384, Nat.mod_lt _ (by decide)⟩

theorem brow_val {n : ℕ} (h : n < 512) : (brow L n).val = base L + n := by
  have := base_lt L
  exact Nat.mod_eq_of_lt (by omega)

/-- The features' slice at block `r`. -/
abbrev fS (r : Fin 8) : Memref sig .scVector .hbm S64x128 .f32 :=
  fV.slice (Rect.unit (s := S16384x128) (k0_off4 L (BitVec.ofNat 32 (64 * r.val))) S64x128.size (k0_off4_inb L r)) (fun _ => rfl)

/-- The centers, whole, as the kernel slices them. -/
abbrev cS : Memref sig .scVector .hbm S1000x128 .f32 :=
  cV.slice (Rect.unit (s := S1000x128) ![0, 0] S1000x128.size inb_S1000x128_S1000x128_0_0) (fun _ => rfl)

theorem inb_list (r : Fin 8) : ∀ a, (![64 * r.val] : Fin 1 → ℕ) a + S64.size a ≤ S512.size a := by
  revert r; decide

/-- The labels' slice at block `r`: the list of rows an indexed copy reads. -/
abbrev yS (r : Fin 8) : Memref sig .scVector .vmem S64 .i32 :=
  yB.slice (Rect.unit (s := S512) ![64 * r.val] S64.size (inb_list r)) (fun _ => rfl)

/-- Block `r` of the features. -/
def fBlk (X : FVec F S16384x128 .f32) (r : ℕ) : FVec F S64x128 .f32 := fun x => X (Fin.cons (brow L (64 * r + (x 0).val)) (Fin.cons (x 1) finZeroElim))

/-- The row of the centers a label names. -/
def crow (w : BitVec 32) : Fin 1000 := ⟨w.toNat % 1000, Nat.mod_lt _ (by decide)⟩

/-- Label `n` of the tile's. -/
def lab (Y : S512.Idx → BitVec 32) (n : ℕ) : BitVec 32 := Y (Fin.cons ⟨n % 512, Nat.mod_lt _ (by decide)⟩ finZeroElim)

/-- Block `r` of the gathered centers. -/
def gBlk (C : FVec F S1000x128 .f32) (Y : S512.Idx → BitVec 32) (r : ℕ) : FVec F S64x128 .f32 :=
  fun x => C (Fin.cons (crow (lab Y (64 * r + (x 0).val))) (Fin.cons (x 1) finZeroElim))

theorem read_fS (X : FVec F S16384x128 .f32) (r : Fin 8) : (fS L r).view.read (Elt F) X = fBlk L X r.val := by
  funext x
  have hx : (x 0).val < 64 := (x 0).isLt
  show X ((fS L r).view.emb x) = X _
  congr 1
  funext a
  apply Fin.ext
  show k0_off4 L (BitVec.ofNat 32 (64 * r.val)) a + 1 * (x a).val = _
  rw [k0_off4_eq]
  have hr := r.isLt
  match a with
  | 0 =>
    show 1024 * (L 1).val + 512 * (L 0).val + 64 * r.val + 1 * (x 0).val = (brow L (64 * r.val + (x 0).val)).val
    rw [brow_val L (by omega)]; unfold base; omega
  | 1 =>
    show 0 + 1 * (x 1).val = (x 1).val
    omega

theorem read_cS (C : FVec F S1000x128 .f32) : cS.view.read (Elt F) C = C := by
  funext x
  show C (cS.view.emb x) = C x
  congr 1
  funext a
  apply Fin.ext
  show (![0, 0] : Fin 2 → ℕ) a + 1 * (x a).val = _
  match a with
  | 0 => show 0 + 1 * (x 0).val = (x 0).val; omega
  | 1 => show 0 + 1 * (x 1).val = (x 1).val; omega

theorem read_yS (Y : S512.Idx → BitVec 32) (r : Fin 8) (x : S64.Idx) :
    (yS r).view.read (Elt F) Y x = lab Y (64 * r.val + (x 0).val) := by
  have hx : (x 0).val < 64 := (x 0).isLt
  have hr := r.isLt
  show Y ((yS r).view.emb x) = Y _
  congr 1
  funext a
  apply Fin.ext
  match a with
  | 0 =>
    show 64 * r.val + 1 * (x 0).val = (64 * r.val + (x 0).val) % 512
    rw [Nat.mod_eq_of_lt (by omega)]; omega

/-- What an indexed copy brings: the centers the labels of block `r` name. -/
theorem payload (C : FVec F S1000x128 .f32) (Y : S512.Idx → BitVec 32) (r : Fin 8)
    (hin : ∀ x, ((yS r).view.read (Elt F) Y x).toNat < S1000x128.size gathers_S1000x128_S64x128.axis) :
    SparseCore.gatherPayload gathers_S1000x128_S64x128 (cS.view.read (Elt F) C)
      (SparseCore.rows (o := S64x128.size gathers_S1000x128_S64x128.axis') ((yS r).view.read (Elt F) Y) rfl hin) = gBlk C Y r.val := by
  funext x
  rw [read_cS]
  show C (gathers_S1000x128_S64x128.idx _ x) = C _
  congr 1
  funext a
  apply Fin.ext
  match a with
  | 0 =>
    refine (congrArg Fin.val (Shape.Gathers.idx_axis gathers_S1000x128_S64x128 _ x)).trans ?_
    show (((yS r).view.read (Elt F) Y _).toNat) = (lab Y (64 * r.val + (x 0).val)).toNat % 1000
    rw [read_yS]
    have hm : ((S64.rowMajor.symm ((x 0).cast rfl)) 0).val = (x 0).val := by
      rw [← Shape.rowMajor_val_one, Equiv.apply_symm_apply]; rfl
    have h := hin (S64.rowMajor.symm ((x 0).cast rfl))
    rw [read_yS, hm] at h
    refine Eq.trans ?_ (Nat.mod_eq_of_lt h).symm
    exact congrArg (fun n => (lab Y (64 * r.val + n)).toNat) hm
  | 1 =>
    exact Shape.Gathers.idx_of_ne gathers_S1000x128_S64x128 _ x 1 (by decide)

theorem toNat_lab {Y : S512.Idx → BitVec 32} (hY : ∀ x, (Y x).toNat < 1000) (n : ℕ) : (lab Y n).toNat < 1000 := hY _

/-! ## A slot: one pair of buffers, with its two semaphores and its shares of what it copies from -/

section Slot

variable (M N : Memref sig .scVector .vmem S64x128 .f32) (sF sG : DmaSem sig) (q qy : PosShare TreeShare)
  (X : FVec F S16384x128 .f32) (C : FVec F S1000x128 .f32) (Y : S512.Idx → BitVec 32)

/-- The features' half of a slot, idle. -/
abbrev F0 : sProp (MT nD τ sig (HIx 1) (Elt F) ℕ UU ℕ) :=
  iprop((∃ f, M.view.loc (thr d L) ↦{fullShare} f) ∗ (fV.view.loc (thr d L) ↦{q} X) ∗ semVal (thr d L, .dma sF) 0)

/-- The features' half, block `r` on its way. -/
abbrev F1 (r : Fin 8) : sProp (MT nD τ sig (HIx 1) (Elt F) ℕ UU ℕ) := iprop(∃ f, Copying d L (fS L r) M sF Finset.univ f q X)

/-- The centers' half, idle. -/
abbrev G0 : sProp (MT nD τ sig (HIx 1) (Elt F) ℕ UU ℕ) :=
  iprop((∃ g, N.view.loc (thr d L) ↦{fullShare} g) ∗ (cV.view.loc (thr d L) ↦{q} C) ∗ (yB.view.loc (thr d L) ↦{qy} Y) ∗ semVal (thr d L, .dma sG) 0)

/-- The centers' half, the rows of block `r` on their way. -/
abbrev G1 (r : Fin 8) : sProp (MT nD τ sig (HIx 1) (Elt F) ℕ UU ℕ) :=
  iprop(∃ g, Transfers.Flight countersEmb (thr d L) (.dma sG) (default : HIx 1) N.view.dmaCredit
      iprop((N.view.loc (thr d L) ↦[N.view.set]{fullShare} (N.view.write (Elt F) g (gBlk C Y r.val) Finset.univ))
        ∗ (cS.view.loc (thr d L) ↦[cS.view.set]{q} C) ∗ ((yS r).view.loc (thr d L) ↦[(yS r).view.set]{qy} Y))
    ∗ (cV.view.loc (thr d L) ↦[Finset.univ \ cS.view.set]{q} C) ∗ (yB.view.loc (thr d L) ↦[Finset.univ \ (yS r).view.set]{qy} Y))

variable {M N sF sG q qy X C Y}

theorem step_feat (r : Fin 8) (hN : 0 < M.view.dmaCredit)
    {h1 : (fS L r).view.WordExact} {h2 : M.view.WordExact} {h3 : DmaTarget.Typed (nD := nD) (τ := τ) (p := (thr d L).2) .hbm (SemLoc.dma sF) (.here M)}
    {k : PUnit → Prog (TpuEff nD τ sig (Elt F) Λ₀ (thr d L).2) α} :
    F0 d L M sF q X
      ⊢ iprop((F1 d L M sF q X r -∗ wp frame (wpE (defs₀ (F := F)) 𝒱₀ (thr d L) none) Set.univ (k ⟨⟩) Q)
        -∗ wp (M := 𝕄) frame (wpE (defs₀ (F := F)) 𝒱₀ (thr d L) none) Set.univ
            (.op (.enqueueDma (fS L r) (.here M) (.dma sF) h1 h2 h3) k) Q) := by
  iintro ⟨⟨%f, Hd⟩, Hs, Hv⟩ Hk
  iapply (step_copy d L (src := fS L r) (dst := M) (Sd := Finset.univ) (fd := f) (q := q) (fs := X) hN (Finset.subset_univ _)) $$ [Hd Hs Hv]
  · isplitl [Hs]; · iexact Hs
    isplitl [Hd] <;> iassumption
  iintro H
  iapply Hk
  iexists f; iexact H

theorem step_feat_done {O : CellTallies nD τ sig (HIx 1)} (hO : ∀ g, O g none = 0) {W : Waits sig (HIx 1)} (r : Fin 8)
    {hk : (thr d L).2 = .tc ∨ M.view.ref.HasMemref S64x128 .f32} {k : PUnit → Prog (TpuEff nD τ sig (Elt F) Λ₀ (thr d L).2) α} :
    iprop(levAts (K (F := F)).L (K (F := F)).lev ∗ F1 d L M sF q X r ∗ owing d L O W)
      ⊢ iprop((∀ f, iprop(⌜M.view.read (Elt F) f = fBlk L X r.val⌝ ∗ (M.view.loc (thr d L) ↦{fullShare} f)
            ∗ (fV.view.loc (thr d L) ↦{q} X) ∗ semVal (thr d L, .dma sF) 0 ∗ owing d L O W)
          -∗ wp frame (wpE (defs₀ (F := F)) 𝒱₀ (thr d L) none) Set.univ (k ⟨⟩) Q)
        -∗ wp (M := 𝕄) frame (wpE (defs₀ (F := F)) 𝒱₀ (thr d L) none) Set.univ (.op (.waitDma sF M.view.ref S64x128 .f32 hk) k) Q) := by
  iintro ⟨#Hlv, ⟨%f, Hf⟩, HO⟩ Hk
  iapply (step_copied d L hO (src := fS L r) (dst := M) (Sd := Finset.univ) (fd := f) (q := q) (fs := X)) $$ [Hf HO]
  · isplitr; · iexact Hlv
    isplitl [Hf] <;> iassumption
  iintro ⟨Hd, H⟩
  iapply Hk
  isplitr; swap
  · isplitl [Hd]; · iexact Hd
    iexact H
  ipureintro
  rw [View.read_write_univ, read_fS]

theorem step_cent (r : Fin 8) (hY : ∀ x, (Y x).toNat < 1000) (hS : N.view.set = Finset.univ)
    (hN : ∑ j, (N.slice (S64x128.rowRect gathers_S1000x128_S64x128.axis' j) (S64x128.stride_rowRect gathers_S1000x128_S64x128.axis' j)).view.dmaCredit
      = N.view.dmaCredit)
    {hn : S64.numel = S64x128.size gathers_S1000x128_S64x128.axis'} {hp : (thr d L).2.kind = .scVector} {hsrc : cS.view.WordExact} {he : EltTy.f32.bits = 32} {hsp : Space.hbm = .hbm ∨ Space.hbm = .shared} {hr : S1000x128.StreamRows 0}
    {k : PUnit → Prog (TpuEff nD τ sig (Elt F) Λ₀ (thr d L).2) α} :
    G0 d L N sG q qy C Y
      ⊢ iprop((G1 d L N sG q qy C Y r -∗ wp frame (wpE (defs₀ (F := F)) 𝒱₀ (thr d L) none) Set.univ (k ⟨⟩) Q)
        -∗ wp (M := 𝕄) frame (wpE (defs₀ (F := F)) 𝒱₀ (thr d L) none) Set.univ
            (SparseCore.enqueueIndirectGather hp cS N gathers_S1000x128_S64x128 (yS r) hn sG hsrc he hsp hr >>= k) Q) := by
  have hin : ∀ x, ((yS r).view.read (Elt F) Y x).toNat < S1000x128.size gathers_S1000x128_S64x128.axis := fun x => hY _
  iintro ⟨⟨%g, Hd⟩, Hc, Hy, Hv⟩ Hk
  ihave Hc := (pointsTo_split_subset (Finset.subset_univ cS.view.set)).1 $$ Hc
  icases Hc with ⟨Hc, Hc'⟩
  ihave Hy := (pointsTo_split_subset (Finset.subset_univ (yS r).view.set)).1 $$ Hy
  icases Hy with ⟨Hy, Hy'⟩
  iapply (SparseCore.wp_indirectGatherLocal countersEmb 𝒱₀ (thr d L) none (hg := gathers_S1000x128_S64x128) (src := cS) (dst := N) (offs := yS r)
    (default : HIx 1) N.view.dmaCredit hN (by decide) hin) $$ [Hc Hd Hy Hv]
  · isplitl [Hc]; · iexact Hc
    isplitl [Hd]; · rw [hS]; iexact Hd
    isplitl [Hy] <;> iassumption
  iintro H
  iapply Hk
  iexists g
  rw [← payload C Y r hin]
  isplitl [H]; · iexact H
  isplitl [Hc'] <;> iassumption

theorem step_cent_done {O : CellTallies nD τ sig (HIx 1)} (hO : ∀ g, O g none = 0) {W : Waits sig (HIx 1)} (r : Fin 8) (hS : N.view.set = Finset.univ)
    {hk : (thr d L).2 = .tc ∨ N.view.ref.HasMemref S64x128 .f32} {k : PUnit → Prog (TpuEff nD τ sig (Elt F) Λ₀ (thr d L).2) α} :
    iprop(levAts (K (F := F)).L (K (F := F)).lev ∗ G1 d L N sG q qy C Y r ∗ owing d L O W)
      ⊢ iprop((∀ g, iprop(⌜N.view.read (Elt F) g = gBlk C Y r.val⌝ ∗ (N.view.loc (thr d L) ↦{fullShare} g)
            ∗ (cV.view.loc (thr d L) ↦{q} C) ∗ (yB.view.loc (thr d L) ↦{qy} Y) ∗ semVal (thr d L, .dma sG) 0 ∗ owing d L O W)
          -∗ wp frame (wpE (defs₀ (F := F)) 𝒱₀ (thr d L) none) Set.univ (k ⟨⟩) Q)
        -∗ wp (M := 𝕄) frame (wpE (defs₀ (F := F)) 𝒱₀ (thr d L) none) Set.univ (.op (.waitDma sG N.view.ref S64x128 .f32 hk) k) Q) := by
  iintro ⟨#Hlv, ⟨%g, Hf, Hc', Hy'⟩, HO⟩ Hk
  iapply (step_wait d L hO (N := N.view.dmaCredit) rfl) $$ [Hf HO]
  · isplitr; · iexact Hlv
    isplitl [Hf] <;> iassumption
  iintro ⟨⟨Hd, Hc, Hy⟩, Hv, HO⟩
  iapply Hk
  isplitr; swap
  isplitl [Hd]; · rw [hS]; iexact Hd
  isplitl [Hc Hc']
  · iapply (pointsTo_split_subset (Finset.subset_univ cS.view.set)).2
    isplitl [Hc] <;> iassumption
  isplitl [Hy Hy']
  · iapply (pointsTo_split_subset (Finset.subset_univ (yS r).view.set)).2
    isplitl [Hy] <;> iassumption
  isplitl [Hv] <;> iassumption
  ipureintro
  exact View.read_write_univ ..

end Slot

end Cert.Proof.Center

end
-- ==== Proof.Parts.lean ====
/-
The tile's eight blocks of features against their centers, in the four parts the program computes them in.
-/
module

public import proofs.«01_k».proof.Proof.Chunks

@[expose] public section

noncomputable section

namespace Cert.Proof.Center

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (d : Dev nD) (L : grid0.Coords)
variable {α : Type} {Q : α → sProp (MT nD τ sig (HIx 1) (Elt F) ℕ UU ℕ)}

/-- A block: the waits for its two copies, and the loop over it. -/
theorem step_block {O : CellTallies nD τ sig (HIx 1)} (hO : ∀ g, O g none = 0) {W : Waits sig (HIx 1)}
    {M N : Memref sig .scVector .vmem S64x128 .f32} {sF sG : DmaSem sig} {q qy : PosShare TreeShare}
    {X : FVec F S16384x128 .f32} {C : FVec F S1000x128 .f32} {Y : S512.Idx → BitVec 32} (r : Fin 8) (hS : N.view.set = Finset.univ)
    {l : Scf.Loop 32} (hok : l.OK) (hn : l.trips = 64) {a : FVec F S16 .f32}
    {body : Fin l.trips → FVec F S16 .f32 → Prog (TpuEff nD τ sig (Elt F) Λ₀ (thr d L).2) (FVec F S16 .f32)}
    (hb : ∀ f g, M.view.read (Elt F) f = fBlk L X r.val → N.view.read (Elt F) g = gBlk C Y r.val →
      ∀ t a, Trip d L M N f g (fBlk L X r.val) (gBlk C Y r.val) t.val a (body t a))
    {hk : (thr d L).2 = .tc ∨ M.view.ref.HasMemref S64x128 .f32} {hk' : (thr d L).2 = .tc ∨ N.view.ref.HasMemref S64x128 .f32}
    {kk : FVec F S16 .f32 → Prog (TpuEff nD τ sig (Elt F) Λ₀ (thr d L).2) α} :
    iprop(levAts (K (F := F)).L (K (F := F)).lev ∗ F1 d L M sF q X r ∗ G1 d L N sG q qy C Y r ∗ owing d L O W)
      ⊢ iprop((iprop(F0 d L M sF q X ∗ G0 d L N sG q qy C Y ∗ owing d L O W)
          -∗ wp frame (wpE (defs₀ (F := F)) 𝒱₀ (thr d L) none) Set.univ (kk (rowsSq (fBlk L X r.val) (gBlk C Y r.val) a 64)) Q)
        -∗ wp (M := 𝕄) frame (wpE (defs₀ (F := F)) 𝒱₀ (thr d L) none) Set.univ
            (.op (.waitDma sF M.view.ref S64x128 .f32 hk) fun _ => .op (.waitDma sG N.view.ref S64x128 .f32 hk') fun _ =>
              Scf.Loop.for l hok a body >>= kk) Q) := by
  iintro ⟨#Hlv, HF, HG, HO⟩ Hk
  iapply (step_feat_done d L hO r) $$ [HF HO]
  · isplitr; · iexact Hlv
    isplitl [HF] <;> iassumption
  iintro %f ⟨%hf, HM, HX, HsF, HO⟩
  iapply (step_cent_done d L hO r hS) $$ [HG HO]
  · isplitr; · iexact Hlv
    isplitl [HG] <;> iassumption
  iintro %g ⟨%hg, HN, HC, HY, HsG, HO⟩
  iapply (step_loop d L (M := M) (N := N) (f := f) (g := g) hok hn (hb f g hf hg)) $$ [HM HN]
  · isplitl [HM] <;> iassumption
  iintro ⟨HM, HN⟩
  iapply Hk
  isplitl [HM HX HsF]
  · isplitl [HM]; · iexists f; iexact HM
    isplitl [HX] <;> iassumption
  isplitl [HN HC HY HsG]
  · isplitl [HN]; · iexists g; iexact HN
    isplitl [HC]; · iexact HC
    isplitl [HY] <;> iassumption
  iexact HO

/-! ## The two slots -/

section Slots

variable (q qy : PosShare TreeShare) (X : FVec F S16384x128 .f32) (C : FVec F S1000x128 .f32) (Y : S512.Idx → BitVec 32)

abbrev FA0 := F0 d L fA cc0_scratch10.sem q.left X
abbrev FB0 := F0 d L fB cc0_scratch11.sem q.right X
abbrev GA0 := G0 d L gA cc0_scratch12.sem q.left qy.left C Y
abbrev GB0 := G0 d L gB cc0_scratch13.sem q.right qy.right C Y
abbrev FA1 (r : Fin 8) := F1 d L fA cc0_scratch10.sem q.left X r
abbrev FB1 (r : Fin 8) := F1 d L fB cc0_scratch11.sem q.right X r
abbrev GA1 (r : Fin 8) := G1 d L gA cc0_scratch12.sem q.left qy.left C Y r
abbrev GB1 (r : Fin 8) := G1 d L gB cc0_scratch13.sem q.right qy.right C Y r

/-- The lanes' sums of squares after the first `n` blocks. -/
def sqs : ℕ → FVec F S16 .f32
  | 0 => zeros
  | n + 1 => rowsSq (fBlk L X n) (gBlk C Y n) (sqs n) 64

variable {q qy X C Y}

theorem tripA {f g : FVec F S64x128 .f32} {r : Fin 8} (hf : fA.view.read (Elt F) f = fBlk L X r.val) (hg : gA.view.read (Elt F) g = gBlk C Y r.val)
    {n : ℕ} {a : FVec F S16 .f32} {p : Prog (TpuEff nD τ sig (Elt F) Λ₀ (thr d L).2) (FVec F S16 .f32)} (h : Trip d L fA gA f g f g n a p) :
    Trip d L fA gA f g (fBlk L X r.val) (gBlk C Y r.val) n a p := by
  have e : f = fBlk L X r.val := hf
  have e' : g = gBlk C Y r.val := hg
  subst e e'; exact h

theorem tripB {f g : FVec F S64x128 .f32} {r : Fin 8} (hf : fB.view.read (Elt F) f = fBlk L X r.val) (hg : gB.view.read (Elt F) g = gBlk C Y r.val)
    {n : ℕ} {a : FVec F S16 .f32} {p : Prog (TpuEff nD τ sig (Elt F) Λ₀ (thr d L).2) (FVec F S16 .f32)} (h : Trip d L fB gB f g f g n a p) :
    Trip d L fB gB f g (fBlk L X r.val) (gBlk C Y r.val) n a p := by
  have e : f = fBlk L X r.val := hf
  have e' : g = gBlk C Y r.val := hg
  subst e e'; exact h

variable {O : CellTallies nD τ sig (HIx 1)} (hO : ∀ g, O g none = 0) {W : Waits sig (HIx 1)} (hY : ∀ x, (Y x).toNat < 1000)
include hO hY

theorem part23 {v2 : BitVec 32} :
    iprop(levAts (K (F := F)).L (K (F := F)).lev ∗ (FA0 d L q X ∗ GA0 d L q qy C Y) ∗ (FB0 d L q X ∗ GB0 d L q qy C Y) ∗ owing d L O W)
      ⊢ wp (M := 𝕄) frame (wpE (defs₀ (F := F)) 𝒱₀ (thr d L) none) Set.univ (onBufs L (k0_part23 (F := F)) v2)
          fun r => iprop(⌜r = sqs L X C Y 1⌝ ∗ (FA1 d L q X 2 ∗ GA1 d L q qy C Y 2) ∗ (FB1 d L q X 1 ∗ GB1 d L q qy C Y 1) ∗ owing d L O W) := by
  unfold onBufs; simp only [k0_part23_eq_skeleton]; unfold k0_part23_skel
  iintro ⟨#Hlv, ⟨HFA, HGA⟩, ⟨HFB, HGB⟩, HO⟩; simp only [Prog.bind_lift, Prog.bind_op, Prog.bind_ret]
  iapply (step_feat d L (M := fA) 0 (by decide)) $$ HFA; iintro HFA
  iapply (step_cent d L (N := gA) 0 hY (View.set_whole _) (by decide)) $$ HGA; iintro HGA
  iapply (step_feat d L (M := fB) 1 (by decide)) $$ HFB; iintro HFB
  iapply (step_cent d L (N := gB) 1 hY (View.set_whole _) (by decide)) $$ HGB; iintro HGB
  iapply (step_block d L hO (M := fA) (N := gA) 0 (View.set_whole _) k0_t1_ok (by decide) (fun f g hf hg t a => tripA d L hf hg (trip1 d L f g t a))) $$ [HFA HGA HO]
  · isplitr; · iexact Hlv
    isplitl [HFA]; · iexact HFA
    isplitl [HGA] <;> iassumption
  iintro ⟨HFA, HGA, HO⟩
  iapply (step_feat d L (M := fA) 2 (by decide)) $$ HFA; iintro HFA
  iapply (step_cent d L (N := gA) 2 hY (View.set_whole _) (by decide)) $$ HGA; iintro HGA
  sl_step; isplitr; · ipureintro; rfl
  isplitl [HFA HGA]; · isplitl [HFA] <;> iassumption
  isplitl [HFB HGB]; · isplitl [HFB] <;> iassumption
  iexact HO

theorem part24 {v2 : BitVec 32} :
    iprop(levAts (K (F := F)).L (K (F := F)).lev ∗ (FA1 d L q X 2 ∗ GA1 d L q qy C Y 2) ∗ (FB1 d L q X 1 ∗ GB1 d L q qy C Y 1) ∗ owing d L O W)
      ⊢ wp (M := 𝕄) frame (wpE (defs₀ (F := F)) 𝒱₀ (thr d L) none) Set.univ (onBufs L (k0_part24 (F := F)) v2 (sqs L X C Y 1))
          fun r => iprop(⌜r = sqs L X C Y 3⌝ ∗ (FA1 d L q X 4 ∗ GA1 d L q qy C Y 4) ∗ (FB1 d L q X 3 ∗ GB1 d L q qy C Y 3) ∗ owing d L O W) := by
  unfold onBufs; simp only [k0_part24_eq_skeleton]; unfold k0_part24_skel
  iintro ⟨#Hlv, ⟨HFA, HGA⟩, ⟨HFB, HGB⟩, HO⟩; simp only [Prog.bind_lift, Prog.bind_op, Prog.bind_ret]
  iapply (step_block d L hO (M := fB) (N := gB) 1 (View.set_whole _) k0_t2_ok (by decide) (fun f g hf hg t a => tripB d L hf hg (trip2 d L f g t a))) $$ [HFB HGB HO]
  · isplitr; · iexact Hlv
    isplitl [HFB]; · iexact HFB
    isplitl [HGB] <;> iassumption
  iintro ⟨HFB, HGB, HO⟩
  iapply (step_feat d L (M := fB) 3 (by decide)) $$ HFB; iintro HFB
  iapply (step_cent d L (N := gB) 3 hY (View.set_whole _) (by decide)) $$ HGB; iintro HGB
  iapply (step_block d L hO (M := fA) (N := gA) 2 (View.set_whole _) k0_t3_ok (by decide) (fun f g hf hg t a => tripA d L hf hg (trip3 d L f g t a))) $$ [HFA HGA HO]
  · isplitr; · iexact Hlv
    isplitl [HFA]; · iexact HFA
    isplitl [HGA] <;> iassumption
  iintro ⟨HFA, HGA, HO⟩
  iapply (step_feat d L (M := fA) 4 (by decide)) $$ HFA; iintro HFA
  iapply (step_cent d L (N := gA) 4 hY (View.set_whole _) (by decide)) $$ HGA; iintro HGA
  sl_step; isplitr; · ipureintro; rfl
  isplitl [HFA HGA]; · isplitl [HFA] <;> iassumption
  isplitl [HFB HGB]; · isplitl [HFB] <;> iassumption
  iexact HO

theorem part25 {v2 : BitVec 32} :
    iprop(levAts (K (F := F)).L (K (F := F)).lev ∗ (FA1 d L q X 4 ∗ GA1 d L q qy C Y 4) ∗ (FB1 d L q X 3 ∗ GB1 d L q qy C Y 3) ∗ owing d L O W)
      ⊢ wp (M := 𝕄) frame (wpE (defs₀ (F := F)) 𝒱₀ (thr d L) none) Set.univ (onBufs L (k0_part25 (F := F)) v2 (sqs L X C Y 3))
          fun r => iprop(⌜r = sqs L X C Y 5⌝ ∗ (FA1 d L q X 6 ∗ GA0 d L q qy C Y) ∗ (FB1 d L q X 5 ∗ GB1 d L q qy C Y 5) ∗ owing d L O W) := by
  unfold onBufs; simp only [k0_part25_eq_skeleton]; unfold k0_part25_skel
  iintro ⟨#Hlv, ⟨HFA, HGA⟩, ⟨HFB, HGB⟩, HO⟩; simp only [Prog.bind_lift, Prog.bind_op, Prog.bind_ret]
  iapply (step_block d L hO (M := fB) (N := gB) 3 (View.set_whole _) k0_t4_ok (by decide) (fun f g hf hg t a => tripB d L hf hg (trip4 d L f g t a))) $$ [HFB HGB HO]
  · isplitr; · iexact Hlv
    isplitl [HFB]; · iexact HFB
    isplitl [HGB] <;> iassumption
  iintro ⟨HFB, HGB, HO⟩
  iapply (step_feat d L (M := fB) 5 (by decide)) $$ HFB; iintro HFB
  iapply (step_cent d L (N := gB) 5 hY (View.set_whole _) (by decide)) $$ HGB; iintro HGB
  iapply (step_block d L hO (M := fA) (N := gA) 4 (View.set_whole _) k0_t5_ok (by decide) (fun f g hf hg t a => tripA d L hf hg (trip5 d L f g t a))) $$ [HFA HGA HO]
  · isplitr; · iexact Hlv
    isplitl [HFA]; · iexact HFA
    isplitl [HGA] <;> iassumption
  iintro ⟨HFA, HGA, HO⟩
  iapply (step_feat d L (M := fA) 6 (by decide)) $$ HFA; iintro HFA
  sl_step; isplitr; · ipureintro; rfl
  isplitl [HFA HGA]; · isplitl [HFA] <;> iassumption
  isplitl [HFB HGB]; · isplitl [HFB] <;> iassumption
  iexact HO

theorem part26 {v2 : BitVec 32} :
    iprop(levAts (K (F := F)).L (K (F := F)).lev ∗ (FA1 d L q X 6 ∗ GA0 d L q qy C Y) ∗ (FB1 d L q X 5 ∗ GB1 d L q qy C Y 5) ∗ owing d L O W)
      ⊢ wp (M := 𝕄) frame (wpE (defs₀ (F := F)) 𝒱₀ (thr d L) none) Set.univ (onBufs L (k0_part26 (F := F)) v2 (sqs L X C Y 5))
          fun r => iprop(⌜r = sqs L X C Y 7⌝ ∗ (FA0 d L q X ∗ GA0 d L q qy C Y) ∗ (FB1 d L q X 7 ∗ GB1 d L q qy C Y 7) ∗ owing d L O W) := by
  unfold onBufs; simp only [k0_part26_eq_skeleton]; unfold k0_part26_skel
  iintro ⟨#Hlv, ⟨HFA, HGA⟩, ⟨HFB, HGB⟩, HO⟩; simp only [Prog.bind_lift, Prog.bind_op, Prog.bind_ret]
  iapply (step_cent d L (N := gA) 6 hY (View.set_whole _) (by decide)) $$ HGA; iintro HGA
  iapply (step_block d L hO (M := fB) (N := gB) 5 (View.set_whole _) k0_t6_ok (by decide) (fun f g hf hg t a => tripB d L hf hg (trip6 d L f g t a))) $$ [HFB HGB HO]
  · isplitr; · iexact Hlv
    isplitl [HFB]; · iexact HFB
    isplitl [HGB] <;> iassumption
  iintro ⟨HFB, HGB, HO⟩
  iapply (step_feat d L (M := fB) 7 (by decide)) $$ HFB; iintro HFB
  iapply (step_cent d L (N := gB) 7 hY (View.set_whole _) (by decide)) $$ HGB; iintro HGB
  iapply (step_block d L hO (M := fA) (N := gA) 6 (View.set_whole _) k0_t7_ok (by decide) (fun f g hf hg t a => tripA d L hf hg (trip7 d L f g t a))) $$ [HFA HGA HO]
  · isplitr; · iexact Hlv
    isplitl [HFA]; · iexact HFA
    isplitl [HGA] <;> iassumption
  iintro ⟨HFA, HGA, HO⟩
  sl_step; isplitr; · ipureintro; rfl
  isplitl [HFA HGA]; · isplitl [HFA] <;> iassumption
  isplitl [HFB HGB]; · isplitl [HFB] <;> iassumption
  iexact HO

end Slots

end Cert.Proof.Center

end
-- ==== Proof.Tile.lean ====
/-
What one tile does, from its shares of the arrays to its row of the result.
-/
module

public import proofs.«01_k».proof.Proof.Parts

@[expose] public section

noncomputable section

namespace Cert.Proof.Center

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (d : Dev nD) (L : grid0.Coords)
variable {α : Type} {Q : α → sProp (MT nD τ sig (HIx 1) (Elt F) ℕ UU ℕ)}

/-! ## The tile's labels and logits -/

/-- The labels' slice. -/
abbrev yR : Memref sig .scVector .hbm S512 .i32 := yV.slice (Rect.unit (s := S16384) (k0_off1 L) S512.size (k0_off1_inb L)) (fun _ => rfl)

/-- The logits' slice at half `h`. -/
abbrev lR (h : Fin 2) : Memref sig .scVector .hbm S104x256 .f32 :=
  lV.slice (Rect.unit (s := S1000x16384) (k0_off2 L (BitVec.ofNat 32 (256 * h.val))) S104x256.size (k0_off2_inb L h)) (fun _ => rfl)

abbrev lAd : Memref sig .scVector .vmem S104x256 .f32 := lA.slice (Rect.unit (s := S128x256) ![0, 0] S104x256.size inb_S128x256_S104x256_0_0) (fun _ => rfl)
abbrev lBd : Memref sig .scVector .vmem S104x256 .f32 := lB.slice (Rect.unit (s := S128x256) ![0, 0] S104x256.size inb_S128x256_S104x256_0_0) (fun _ => rfl)

/-- The tile's labels. -/
def yT (y : S16384.Idx → BitVec 32) : S512.Idx → BitVec 32 := fun x => y (Fin.cons (brow L (x 0).val) finZeroElim)

/-- The tile's logits at half `h`: the classes from 896 on. -/
def lT (T : FVec F S1000x16384 .f32) (h : ℕ) : FVec F S128x256 .f32 :=
  fun x => T (Fin.cons ⟨(896 + (x 0).val) % 1000, Nat.mod_lt _ (by decide)⟩ (Fin.cons (brow L (256 * h + (x 1).val)) finZeroElim))

theorem read_yR (y : S16384.Idx → BitVec 32) : (yR L).view.read (Elt F) y = yT L y := by
  funext x
  have hx : (x 0).val < 512 := (x 0).isLt
  show y ((yR L).view.emb x) = y _
  congr 1
  funext a
  apply Fin.ext
  match a with
  | 0 =>
    show k0_off1 L 0 + 1 * (x 0).val = (brow L (x 0).val).val
    rw [k0_off1_eq, brow_val L (by omega)]
    show 1024 * (L 1).val + 512 * (L 0).val + 1 * (x 0).val = _
    unfold base; omega

/-- The two buffers of logits agree on the rows the tile reads. -/
def Agree (A A' : FVec F S128x256 .f32) : Prop := ∀ x : S128x256.Idx, (x 0).val < 104 → A x = A' x

theorem read_lR (T : FVec F S1000x16384 .f32) (h : Fin 2) (x : S104x256.Idx) (z : S128x256.Idx) (h0 : (z 0).val = (x 0).val) (h1 : (z 1).val = (x 1).val) :
    (lR L h).view.read (Elt F) T x = lT L T h.val z := by
  have hx : (x 0).val < 104 := (x 0).isLt
  have hx1 : (x 1).val < 256 := (x 1).isLt
  have hh := h.isLt
  show T ((lR L h).view.emb x) = T _
  congr 1
  funext a
  apply Fin.ext
  show k0_off2 L (BitVec.ofNat 32 (256 * h.val)) a + 1 * (x a).val = _
  rw [k0_off2_eq]
  match a with
  | 0 =>
    show 896 + 1 * (x 0).val = (896 + (z 0).val) % 1000
    rw [h0, Nat.mod_eq_of_lt (by omega)]; omega
  | 1 =>
    show 1024 * (L 1).val + 512 * (L 0).val + 256 * h.val + 1 * (x 1).val = (brow L (256 * h.val + (z 1).val)).val
    rw [h1, brow_val L (by omega)]; unfold base; omega

theorem agree_A (T : FVec F S1000x16384 .f32) (h : Fin 2) (f : FVec F S128x256 .f32) :
    Agree (lAd.view.write (Elt F) f ((lR L h).view.read (Elt F) T) Finset.univ) (lT L T h.val) := by
  intro z hz
  let x : S104x256.Idx := Fin.cons ⟨(z 0).val, hz⟩ (Fin.cons (z 1) finZeroElim)
  have hzx : z = lAd.view.emb x := by
    funext a; apply Fin.ext
    match a with
    | 0 => show (z 0).val = 0 + 1 * (z 0).val; omega
    | 1 => show (z 1).val = 0 + 1 * (z 1).val; omega
  rw [← read_lR L T h x z rfl rfl]
  conv_lhs => rw [hzx]
  exact (View.write_emb_of_mem _ _ (Finset.mem_univ x)).trans (by rfl)

theorem agree_B (T : FVec F S1000x16384 .f32) (h : Fin 2) (f : FVec F S128x256 .f32) :
    Agree (lBd.view.write (Elt F) f ((lR L h).view.read (Elt F) T) Finset.univ) (lT L T h.val) := agree_A L T h f

theorem pick_congr {A A' : FVec F S128x256 .f32} (h : Agree A A') (y : IVec S16 32) (k : ℕ) : pick A y k = pick A' y k := by
  unfold pick
  congr 1
  funext x
  exact h _ (rix_lt y x)

theorem picks_congr {A A' : FVec F S128x256 .f32} (h : Agree A A') (Y : S512.Idx → BitVec 32) (g : ℕ) (a : FVec F S16 .f32) (n : ℕ) :
    picks A Y g a n = picks A' Y g a n := by
  induction n with
  | zero => rfl
  | succ n ih => show addf _ _ = addf _ _; rw [ih, pick_congr h]

theorem picked_congr {A A' B B' : FVec F S128x256 .f32} (h : Agree A A') (h' : Agree B B') (Y : S512.Idx → BitVec 32) : picked A B Y = picked A' B' Y := by
  unfold picked; rw [picks_congr h, picks_congr h']

/-! ## The first part: the labels, and both halves' logits under way -/

section Run

variable {O : CellTallies nD τ sig (HIx 1)} (hO : ∀ g, O g none = 0) {W : Waits sig (HIx 1)}
include hO

theorem part9 {q : PosShare TreeShare} {y : S16384.Idx → BitVec 32} {T : FVec F S1000x16384 .f32} {f0 : S512.Idx → BitVec 32} {f1 f2 : FVec F S128x256 .f32} :
    iprop(levAts (K (F := F)).L (K (F := F)).lev ∗ yPt d L f0 ∗ lAPt d L f1 ∗ lBPt d L f2
        ∗ (yV.view.loc (thr d L) ↦{q} y) ∗ (lV.view.loc (thr d L) ↦{q.left} T) ∗ (lV.view.loc (thr d L) ↦{q.right} T)
        ∗ semVal (thr d L, .dma cc0_scoped0.sem) 0 ∗ semVal (thr d L, .dma cc0_scratch8.sem) 0 ∗ semVal (thr d L, .dma cc0_scratch9.sem) 0 ∗ owing d L O W)
      ⊢ wp (M := 𝕄) frame (wpE (defs₀ (F := F)) 𝒱₀ (thr d L) none) Set.univ (onBufs L (k0_part9 (F := F)))
          fun r => iprop(∃ v2, ⌜r = ⟨v2, lanes, k0_pay19, rel (yg (yT L y) 0)⟩⌝ ∗ yPt d L (yT L y)
            ∗ lAPt d L (lAd.view.write (Elt F) f1 ((lR L 0).view.read (Elt F) T) Finset.univ)
            ∗ Copying d L (lR L 1) lBd cc0_scratch9.sem Finset.univ f2 q.right T
            ∗ (yV.view.loc (thr d L) ↦{q} y) ∗ (lV.view.loc (thr d L) ↦{q.left} T)
            ∗ semVal (thr d L, .dma cc0_scoped0.sem) 0 ∗ semVal (thr d L, .dma cc0_scratch8.sem) 0 ∗ owing d L O W) := by
  unfold onBufs; simp only [k0_part9_eq_skeleton]; unfold k0_part9_skel
  iintro ⟨#Hlv, Hy, HA, HB, Hyv, HlA, HlB, Hs0, Hs8, Hs9, HO⟩; simp only [Prog.bind_lift, Prog.bind_op, Prog.bind_ret]
  iapply (step_copy d L (src := yR L) (dst := yB) (Sd := Finset.univ) (fd := f0) (q := q) (fs := y) (by decide) (Finset.subset_univ _)) $$ [Hy Hyv Hs0]
  · isplitl [Hyv]; · iexact Hyv
    isplitl [Hy] <;> iassumption
  iintro Hc
  iapply (step_copied d L hO (src := yR L) (dst := yB) (Sd := Finset.univ) (fd := f0) (q := q) (fs := y)) $$ [Hc HO]
  · isplitr; · iexact Hlv
    isplitl [Hc] <;> iassumption
  iintro ⟨Hy, Hyv, Hs0, HO⟩
  ihave Hy := (Entails.of_eq (show ((yB.view.loc (thr d L) ↦{fullShare} (yB.view.write (Elt F) f0 ((yR L).view.read (Elt F) y) Finset.univ) : sProp 𝕄)) = yPt d L (yT L y) by
    rw [View.write_whole_univ, read_yR])) $$ Hy
  iapply (step_copy d L (src := lR L 0) (dst := lAd) (Sd := Finset.univ) (fd := f1) (q := q.left) (fs := T) (by decide) (Finset.subset_univ _)) $$ [HA HlA Hs8]
  · isplitl [HlA]; · iexact HlA
    isplitl [HA] <;> iassumption
  iintro HcA
  iapply (step_copy d L (src := lR L 1) (dst := lBd) (Sd := Finset.univ) (fd := f2) (q := q.right) (fs := T) (by decide) (Finset.subset_univ _)) $$ [HB HlB Hs9]
  · isplitl [HlB]; · iexact HlB
    isplitl [HB] <;> iassumption
  iintro HcB
  iapply (step_copied d L hO (src := lR L 0) (dst := lAd) (Sd := Finset.univ) (fd := f1) (q := q.left) (fs := T)) $$ [HcA HO]
  · isplitr; · iexact Hlv
    isplitl [HcA] <;> iassumption
  iintro ⟨HA, HlA, Hs8, HO⟩
  iapply (step_y d L 0 rfl) $$ Hy; iintro Hy
  sl_step; iexists _; isplitr; · ipureintro; rfl
  isplitl [Hy]; · iexact Hy
  isplitl [HA]; · iexact HA
  isplitl [HcB]; · iexact HcB
  isplitl [Hyv]; · iexact Hyv
  isplitl [HlA]; · iexact HlA
  isplitl [Hs0]; · iexact Hs0
  isplitl [Hs8] <;> iassumption

end Run

end Cert.Proof.Center

end
-- ==== Proof.Body.lean ====
/-
One tile's whole run: its parts one after another, and its row of the result.
-/
module

public import proofs.«01_k».proof.Proof.Tile

@[expose] public section

noncomputable section

namespace Cert.Proof.Center

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (d : Dev nD) (L : grid0.Coords)
variable {α : Type} {Q : α → sProp (MT nD τ sig (HIx 1) (Elt F) ℕ UU ℕ)}

/-! ## What the tiles leave -/

/-- The tile's row. -/
def tileOut (X : FVec F S16384x128 .f32) (T : FVec F S1000x16384 .f32) (y : S16384.Idx → BitVec 32) (C : FVec F S1000x128 .f32) : FVec F S16 .f32 :=
  k0_pay2 (picked (lT L T 0) (lT L T 1) (yT L y)) (sqs L X C (yT L y) 8)

/-- The tile of subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- The tile whose row is `w`. -/
def tileOf (w : Fin 32) : grid0.Coords := coordsV ⟨w.val % 2, Nat.mod_lt _ (by decide)⟩ ⟨w.val / 2, by show w.val / 2 < 16; omega⟩

/-- All the rows. -/
def outAll (X : FVec F S16384x128 .f32) (T : FVec F S1000x16384 .f32) (y : S16384.Idx → BitVec 32) (C : FVec F S1000x128 .f32) : FVec F S32x16 .f32 :=
  fun i => tileOut (tileOf (i 0)) X T y C (Fin.cons (i 1) finZeroElim)

/-- The tile's row of the result, as the program addresses it. -/
abbrev oRK : Memref sig .scVector .hbm S16 .f32 :=
  (oV.slice (Rect.unit (s := S32x16) (k0_off69 L) S1x16.size (k0_off69_inb L)) (fun _ => rfl)).squeeze S16 squeezes_S1x16_S16

theorem coords_ext {L L' : grid0.Coords} (h0 : L 0 = L' 0) (h1 : L 1 = L' 1) : L = L' := by
  funext a
  match a with
  | ⟨0, _⟩ => exact h0
  | ⟨1, _⟩ => exact h1

theorem tileOf_row (w : Fin 32) (h : w.val = 2 * (L 1).val + (L 0).val) : tileOf w = L := by
  have h0 : (L 0).val < 2 := (L 0).isLt
  apply coords_ext
  · exact Fin.ext (show w.val % 2 = (L 0).val by omega)
  · exact Fin.ext (show w.val / 2 = (L 1).val by omega)

theorem squeeze_lane (x : S16.Idx) :
    ((Shape.reshapeEquiv squeezes_S1x16_S16.numel_eq x) 0).val = 0 ∧ ((Shape.reshapeEquiv squeezes_S1x16_S16.numel_eq x) 1).val = (x 0).val := by
  revert x; decide

theorem emb_row (x : S16.Idx) : ((oRK L).view.emb x 0).val = 2 * (L 1).val + (L 0).val ∧ ((oRK L).view.emb x 1).val = (x 0).val := by
  have h := squeeze_lane x
  constructor
  · show k0_off69 L 0 + 1 * ((Shape.reshapeEquiv squeezes_S1x16_S16.numel_eq x) 0).val = _
    rw [k0_off69_eq, h.1]; rfl
  · show k0_off69 L 1 + 1 * ((Shape.reshapeEquiv squeezes_S1x16_S16.numel_eq x) 1).val = _
    rw [k0_off69_eq, h.2]
    show 0 + 1 * (x 0).val = _
    omega

/-- The row written is the result's on the row's elements. -/
theorem row_written (X : FVec F S16384x128 .f32) (T : FVec F S1000x16384 .f32) (y : S16384.Idx → BitVec 32) (C : FVec F S1000x128 .f32) (f : FVec F S32x16 .f32) :
    ∀ i ∈ (oRK L).view.set, (oRK L).view.write (Elt F) f (tileOut L X T y C) Finset.univ i = outAll X T y C i := by
  intro i hi
  obtain ⟨x, -, rfl⟩ := Finset.mem_map.1 hi
  refine (View.write_emb_of_mem _ _ (Finset.mem_univ x)).trans ?_
  have h := emb_row L x
  show tileOut L X T y C x = tileOut (tileOf ((oRK L).view.emb x 0)) X T y C (Fin.cons ((oRK L).view.emb x 1) finZeroElim)
  rw [tileOf_row L _ h.1]
  congr 1
  funext a
  match a with
  | ⟨0, _⟩ => exact Fin.ext h.2.symm

/-! ## Steps over a part -/

theorem step_part {β : Type} {R : sProp (MT nD τ sig (HIx 1) (Elt F) ℕ UU ℕ)} {p : Prog (TpuEff nD τ sig (Elt F) Λ₀ (thr d L).2) β}
    {Φ : β → sProp (MT nD τ sig (HIx 1) (Elt F) ℕ UU ℕ)} (h : R ⊢ wp (M := 𝕄) frame (wpE (defs₀ (F := F)) 𝒱₀ (thr d L) none) Set.univ p Φ)
    {k : β → Prog (TpuEff nD τ sig (Elt F) Λ₀ (thr d L).2) α} :
    R ⊢ iprop((∀ r, Φ r -∗ wp frame (wpE (defs₀ (F := F)) 𝒱₀ (thr d L) none) Set.univ (k r) Q)
      -∗ wp (M := 𝕄) frame (wpE (defs₀ (F := F)) 𝒱₀ (thr d L) none) Set.univ (p >>= k) Q) := by
  rw [wp_bind]
  exact h.trans (wp_wand frame _ _)

/-- A whole local buffer at some contents. -/
abbrev some {sp : Space} {s : Shape} {e : EltTy} (M : Memref sig .scVector sp s e) : sProp (MT nD τ sig (HIx 1) (Elt F) ℕ UU ℕ) :=
  iprop(∃ f, M.view.loc (thr d L) ↦{fullShare} f)

/-- A semaphore of the tile's at zero. -/
abbrev zero (s : DmaSems sig S_) : sProp (MT nD τ sig (HIx 1) (Elt F) ℕ UU ℕ) := semVal (thr d L, .dma s.sem) 0

/-- The tile's buffers. -/
abbrev bufs : sProp (MT nD τ sig (HIx 1) (Elt F) ℕ UU ℕ) :=
  iprop(some d L yB ∗ some d L lA ∗ some d L lB ∗ some d L fA ∗ some d L fB ∗ some d L gA ∗ some d L gB ∗ some d L oB)

/-- The tile's semaphores. -/
abbrev sems : sProp (MT nD τ sig (HIx 1) (Elt F) ℕ UU ℕ) :=
  iprop(zero d L cc0_scratch8 ∗ zero d L cc0_scratch9 ∗ zero d L cc0_scratch10 ∗ zero d L cc0_scratch11 ∗ zero d L cc0_scratch12
    ∗ zero d L cc0_scratch13 ∗ zero d L cc0_scoped0 ∗ zero d L cc0_scoped1)

/-- The tile's shares of the arrays. -/
abbrev shares (q : PosShare TreeShare) (X : FVec F S16384x128 .f32) (T : FVec F S1000x16384 .f32) (y : S16384.Idx → BitVec 32)
    (C : FVec F S1000x128 .f32) : sProp (MT nD τ sig (HIx 1) (Elt F) ℕ UU ℕ) :=
  iprop((fV.view.loc (thr d L) ↦{q} X) ∗ (lV.view.loc (thr d L) ↦{q} T) ∗ (yV.view.loc (thr d L) ↦{q} y) ∗ (cV.view.loc (thr d L) ↦{q} C))

theorem write_oB (f p : FVec F S16 .f32) :
    (oB.access (Rect.unit (s := S16) ![0] S16.size inb_S16_S16_0)).write (Elt F) f p Finset.univ = p := by
  funext x
  have hx : x = (oB.access (Rect.unit (s := S16) ![0] S16.size inb_S16_S16_0)).emb x := by
    funext a; apply Fin.ext
    match a with
    | ⟨0, _⟩ => show (x 0).val = 0 + 1 * (x 0).val; omega
  conv_lhs => rw [hx]
  exact (View.write_emb_of_mem _ _ (Finset.mem_univ x)).trans (by rfl)

/-- The row stored: the buffer read, whatever it holds, and written over. -/
theorem step_out {p : FVec F S16 .f32} {h1 : (oB).view.LoadsAt (Rect.unit (s := S16) ![0] S16.size inb_S16_S16_0).toLoadRect}
    {h2 : (oB.access (Rect.unit (s := S16) ![0] S16.size inb_S16_S16_0)).Stores Finset.univ}
    {h3 : Finset.univ = Finset.univ ∨ ∀ a, (Rect.unit (s := S16) ![0] S16.size inb_S16_S16_0).stride a = 1}
    {k : PUnit → Prog (TpuEff nD τ sig (Elt F) Λ₀ (thr d L).2) α} :
    some d L oB ⊢ iprop(((oB.view.loc (thr d L) ↦{fullShare} p) -∗ wp frame (wpE (defs₀ (F := F)) 𝒱₀ (thr d L) none) Set.univ (k ⟨⟩) Q)
      -∗ wp (M := 𝕄) frame (wpE (defs₀ (F := F)) 𝒱₀ (thr d L) none) Set.univ
          (.op (.load oB (Rect.unit (s := S16) ![0] S16.size inb_S16_S16_0).toLoadRect h1) fun _ =>
            .op (.store oB (Rect.unit (s := S16) ![0] S16.size inb_S16_S16_0) p Finset.univ h2 h3) k) Q) := by
  iintro ⟨%f, H⟩ Hk
  iapply (wp_load 𝒱₀ (thr d L) none Set.univ (m := oB) (S := Finset.univ) (Finset.subset_univ _)) $$ H; iintro H
  iapply (wp_store 𝒱₀ (thr d L) none Set.univ (m := oB) (r := Rect.unit (s := S16) ![0] S16.size inb_S16_S16_0) (w := p) (Mk := Finset.univ) (S := Finset.univ) (f := f) (Finset.subset_univ _)) $$ H
  rw [write_oB]
  iexact Hk

variable {O : CellTallies nD τ sig (HIx 1)} (hO : ∀ g, O g none = 0) {W : Waits sig (HIx 1)}
include hO

set_option maxHeartbeats 4000000 in
theorem tile_core {q : PosShare TreeShare} {X : FVec F S16384x128 .f32} {T : FVec F S1000x16384 .f32} {y : S16384.Idx → BitVec 32}
    {C : FVec F S1000x128 .f32} {fo : FVec F S32x16 .f32} (hy : ∀ j, (y j).toNat < 1000) :
    iprop(levAts (K (F := F)).L (K (F := F)).lev ∗ (shares d L q X T y C ∗ ((oRK L).view.loc (thr d L) ↦[(oRK L).view.set]{fullShare} fo))
        ∗ bufs d L ∗ sems d L ∗ owing d L O W)
      ⊢ wp (M := 𝕄) frame (wpE (defs₀ (F := F)) 𝒱₀ (thr d L) none) Set.univ (onBufs L (cc0__sc_body (F := F)))
          fun _ => iprop((shares d L q X T y C ∗ ((oRK L).view.loc (thr d L) ↦[(oRK L).view.set]{fullShare} (outAll X T y C)))
            ∗ bufs d L ∗ sems d L ∗ owing d L O W) := by
  unfold onBufs; simp only [cc0__sc_body_eq_skeleton]; unfold cc0__sc_body_skel
  have hY : ∀ x, (yT L y x).toNat < 1000 := fun x => hy _
  iintro ⟨#Hlv, ⟨⟨HX, HT, Hyv, HC⟩, Hout⟩, ⟨⟨%f0, Hy⟩, ⟨%f1, HA⟩, ⟨%f2, HB⟩, HfA, HfB, HgA, HgB, HoB⟩, ⟨Hs8, Hs9, Hs10, Hs11, Hs12, Hs13, Hr0, Hr1⟩, HO⟩
  ihave HT := (pointsTo_share (PosShare.mem_left_op_right q)).1 $$ HT; icases HT with ⟨HT, HT'⟩
  iapply (step_part d L (part9 d L hO (q := q) (y := y) (T := T) (f0 := f0) (f1 := f1) (f2 := f2))) $$ [Hy HA HB Hyv HT HT' Hr0 Hs8 Hs9 HO]
  · isplitr; · iexact Hlv
    isplitl [Hy]; · iexact Hy
    isplitl [HA]; · iexact HA
    isplitl [HB]; · iexact HB
    isplitl [Hyv]; · iexact Hyv
    isplitl [HT]; · iexact HT
    isplitl [HT']; · iexact HT'
    isplitl [Hr0]; · iexact Hr0
    isplitl [Hs8]; · iexact Hs8
    isplitl [Hs9] <;> iassumption
  iintro %r ⟨%v2, %hr, Hy, HA, ⟨HcB, HT'⟩, Hyv, HT, Hr0, Hs8, HO⟩; subst hr
  ihave H := (Entails.of_eq (show iprop(yPt d L (yT L y) ∗ lAPt d L (lAd.view.write (Elt F) f1 ((lR L 0).view.read (Elt F) T) Finset.univ))
      = (iprop(yPt d L (yT L y) ∗ lAPt d L (lAd.view.write (Elt F) f1 ((lR L 0).view.read (Elt F) T) Finset.univ)) : sProp 𝕄) from rfl)) $$ [Hy HA]
  · isplitl [Hy] <;> iassumption
  iapply (step_part d L (part10 d L)) $$ H; iintro %r ⟨%hr, H⟩; subst hr
  iapply (step_part d L (part11 d L)) $$ H; iintro %r ⟨%hr, H⟩; subst hr
  iapply (step_part d L (part12 d L)) $$ H; iintro %r ⟨%hr, H⟩; subst hr
  iapply (step_part d L (part13 d L)) $$ H; iintro %r ⟨%hr, H⟩; subst hr
  iapply (step_part d L (part14 d L)) $$ H; iintro %r ⟨%hr, H⟩; subst hr
  iapply (step_part d L (part15 d L)) $$ H; iintro %r ⟨%hr, H⟩; subst hr
  iapply (step_part d L (part16 d L hO (v2 := v2) (B := lBd.view.write (Elt F) f2 ((lR L 1).view.read (Elt F) T) Finset.univ)
      (R := iprop((lR L 1).view.loc (thr d L) ↦[(lR L 1).view.set]{q.right} T)) (N := lBd.view.dmaCredit) rfl)) $$ [H HcB HO]
  · isplitr; · iexact Hlv
    isplitl [H]; · iexact H
    isplitl [HcB]; · iexact HcB
    iexact HO
  iintro %r ⟨%hr, H, HA, HT'', Hs9, HO⟩; subst hr
  iapply (step_part d L (part17 d L _)) $$ H; iintro %r ⟨%hr, H⟩; subst hr
  iapply (step_part d L (part18 d L _)) $$ H; iintro %r ⟨%hr, H⟩; subst hr
  iapply (step_part d L (part19 d L _)) $$ H; iintro %r ⟨%hr, H⟩; subst hr
  iapply (step_part d L (part20 d L _)) $$ H; iintro %r ⟨%hr, H⟩; subst hr
  iapply (step_part d L (part21 d L _)) $$ H; iintro %r ⟨%hr, H⟩; subst hr
  iapply (step_part d L (part22 d L _ (v2 := v2))) $$ H; iintro %r ⟨%hr, H⟩; subst hr
  icases H with ⟨Hy, HB⟩
  ihave HT' := (pointsTo_split_subset (ℓ := (lR L 1).view.loc (thr d L)) (q := q.right) (f := T) (Finset.subset_univ (lR L 1).view.set)).2 $$ [HT'' HT']
  · isplitl [HT''] <;> iassumption
  ihave HT := (pointsTo_share (ℓ := lV.view.loc (thr d L)) (I := Finset.univ) (f := T) (PosShare.mem_left_op_right q)).2 $$ [HT HT']
  · isplitl [HT]; · iexact HT
    iexact HT'
  ihave HX := (pointsTo_share (PosShare.mem_left_op_right q)).1 $$ HX; icases HX with ⟨HX, HX'⟩
  ihave HC := (pointsTo_share (PosShare.mem_left_op_right q)).1 $$ HC; icases HC with ⟨HC, HC'⟩
  ihave Hy := (pointsTo_share (PosShare.mem_left_op_right fullShare)).1 $$ Hy; icases Hy with ⟨Hy, Hy'⟩
  iapply (step_part d L (part23 d L (q := q) (qy := fullShare) (X := X) (C := C) (Y := yT L y) hO hY (v2 := v2)))
    $$ [HX HX' HC HC' Hy Hy' HfA HfB HgA HgB Hs10 Hs11 Hs12 Hs13 HO]
  · isplitr; · iexact Hlv
    isplitl [HX HC Hy HfA HgA Hs10 Hs12]
    · isplitl [HX HfA Hs10]
      · isplitl [HfA]; · iexact HfA
        isplitl [HX] <;> iassumption
      isplitl [HgA]; · iexact HgA
      isplitl [HC]; · iexact HC
      isplitl [Hy] <;> iassumption
    isplitl [HX' HC' Hy' HfB HgB Hs11 Hs13]
    · isplitl [HX' HfB Hs11]
      · isplitl [HfB]; · iexact HfB
        isplitl [HX'] <;> iassumption
      isplitl [HgB]; · iexact HgB
      isplitl [HC']; · iexact HC'
      isplitl [Hy'] <;> iassumption
    iexact HO
  iintro %r ⟨%hr, H⟩; subst hr
  iapply (step_part d L (part24 d L (q := q) (qy := fullShare) (X := X) (C := C) (Y := yT L y) hO hY (v2 := v2))) $$ [H]
  · isplitr; · iexact Hlv
    iexact H
  iintro %r ⟨%hr, H⟩; subst hr
  iapply (step_part d L (part25 d L (q := q) (qy := fullShare) (X := X) (C := C) (Y := yT L y) hO hY (v2 := v2))) $$ [H]
  · isplitr; · iexact Hlv
    iexact H
  iintro %r ⟨%hr, H⟩; subst hr
  iapply (step_part d L (part26 d L (q := q) (qy := fullShare) (X := X) (C := C) (Y := yT L y) hO hY (v2 := v2))) $$ [H]
  · isplitr; · iexact Hlv
    iexact H
  iintro %r ⟨%hr, H⟩; subst hr
  icases H with ⟨⟨HFA, HGA⟩, ⟨HFB, HGB⟩, HO⟩
  simp only [Prog.bind_lift, Prog.bind_op, Prog.bind_ret]
  iapply (step_block d L hO (M := fB) (N := gB) 7 (View.set_whole _) k0_t8_ok (by decide) (fun f g hf hg t a => tripB d L hf hg (trip8 d L f g t a))) $$ [HFB HGB HO]
  · isplitr; · iexact Hlv
    isplitl [HFB]; · iexact HFB
    isplitl [HGB] <;> iassumption
  iintro ⟨HFB, HGB, HO⟩
  iapply (step_out d L) $$ HoB; iintro HoB
  iapply (step_copy d L (src := oB) (dst := oRK L) (Sd := (oRK L).view.set) (fd := fo) (q := fullShare) (fs := tileOut L X T y C) (View.dmaCredit_pos _ (by decide)) (Finset.Subset.refl _)) $$ [HoB Hout Hr1]
  · isplitl [HoB]
    · iapply (Entails.of_eq (congrArg (fun p => (oB.view.loc (thr d L) ↦{fullShare} p : sProp 𝕄))
        (show tileOut L X T y C = k0_pay2 (picked _ _ (yT L y)) (sqs L X C (yT L y) 8) from by
          unfold tileOut; rw [picked_congr (agree_A L T 0 f1) (agree_B L T 1 f2)]; rfl).symm))
      iexact HoB
    isplitl [Hout] <;> iassumption
  iintro Hc
  iapply (step_copied d L hO (src := oB) (dst := oRK L) (Sd := (oRK L).view.set) (fd := fo) (q := fullShare) (fs := tileOut L X T y C)) $$ [Hc HO]
  · isplitr; · iexact Hlv
    isplitl [Hc] <;> iassumption
  iintro ⟨Hout, HoB, Hr1, HO⟩
  icases HFA with ⟨HfA, HX, Hs10⟩; icases HGA with ⟨HgA, HC, Hy, Hs12⟩
  icases HFB with ⟨HfB, HX', Hs11⟩; icases HGB with ⟨HgB, HC', Hy', Hs13⟩
  sl_step
  isplitl [HX HX' HT Hyv HC HC' Hout]
  · isplitr [Hout]
    · isplitl [HX HX']
      · iapply (pointsTo_share (PosShare.mem_left_op_right q)).2
        isplitl [HX] <;> iassumption
      isplitl [HT]; · iexact HT
      isplitl [Hyv]; · iexact Hyv
      iapply (pointsTo_share (PosShare.mem_left_op_right q)).2
      isplitl [HC] <;> iassumption
    iapply (Entails.of_eq (pointsTo_congr (row_written L X T y C fo))); iexact Hout
  isplitl [Hy Hy' HA HB HfA HfB HgA HgB HoB]
  · isplitl [Hy Hy']
    · iexists _; iapply (pointsTo_share (PosShare.mem_left_op_right fullShare)).2
      isplitl [Hy] <;> iassumption
    isplitl [HA]; · iexists _; iexact HA
    isplitl [HB]; · iexists _; iexact HB
    isplitl [HfA]; · iexact HfA
    isplitl [HfB]; · iexact HfB
    isplitl [HgA]; · iexact HgA
    isplitl [HgB]; · iexact HgB
    iexists _; iexact HoB
  isplitr [HO]
  · isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hr0] <;> iassumption
  iexact HO

end Cert.Proof.Center

end
-- ==== Proof.Launch.lean ====
/-
The launch of the SparseCore's call: what each tile is handed and hands back, the tile's obligation, and how the arrays are dealt to the tiles and gathered again.
-/
module

public import proofs.«01_k».proof.Proof.Body
public import Idealize.ShloMosaic.Lib.ShareLeaves

@[expose] public section

noncomputable section

namespace Cert.Proof.Center

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ShareLeaves

variable [FloatOps F]

section Own

variable (d : Dev nD) (L : grid0.Coords)

/-! ## The tile's own semaphores and buffers -/

abbrev cell (s : DmaSems sig S_) : GSem nD τ sig := (thr d L, .dma s.sem)

omit [FloatOps F] in
theorem mem_cell {s : DmaSems sig S_} (h : (SemLoc.dma s.sem : SemLoc sig).isScoped .scVector = true) : cell d L s ∈ ownCells (thr d L) :=
  (mem_ownCells (g := cell d L s)).mpr ⟨rfl, h⟩

omit [FloatOps F] in
theorem cell_ne {s t : DmaSems sig S_} (h : (SemLoc.dma s.sem : SemLoc sig) ≠ .dma t.sem) : cell d L s ≠ cell d L t :=
  fun e => h (congrArg Prod.snd e)

omit [FloatOps F] in
theorem peel_sem (s : DmaSems sig S_) {I : Finset (GSem nD τ sig)} (h : cell d L s ∈ I) :
    (bigSep I fun g => semVal g 0 : sProp 𝕄) = iprop(zero d L s ∗ bigSep (I.erase (cell d L s)) fun g => semVal g 0) :=
  SparseCore.bigSep_erase' h

omit [FloatOps F] in
theorem sep_assoc_q (A B C : sProp 𝕄) : iprop((A ∗ B) ∗ C) = iprop(A ∗ B ∗ C) :=
  BI.Entails.antisymm Idealize.SL.BI.sep_assoc Idealize.SL.BI.sep_assoc'

/-- The tile's semaphores beside those the program names. -/
abbrev otherCells : Finset (GSem nD τ sig) := ((((((((ownCells (thr d L)).erase (cell d L cc0_scratch8)).erase (cell d L cc0_scratch9)).erase (cell d L cc0_scratch10)).erase (cell d L cc0_scratch11)).erase (cell d L cc0_scratch12)).erase (cell d L cc0_scratch13)).erase (cell d L cc0_scoped0)).erase (cell d L cc0_scoped1)

omit [FloatOps F] in
theorem ownSems_eq : (ownSems0 (thr d L) : sProp 𝕄) = iprop(sems d L ∗ bigSep (otherCells d L) fun g => semVal g 0) := by
  unfold SparseCore.Cfg.ownSems0
  rw [peel_sem d L cc0_scratch8 (mem_cell d L (by decide)),
    peel_sem d L cc0_scratch9 (Finset.mem_erase.mpr ⟨cell_ne d L (by decide), mem_cell d L (by decide)⟩),
    peel_sem d L cc0_scratch10 (Finset.mem_erase.mpr ⟨cell_ne d L (by decide), Finset.mem_erase.mpr ⟨cell_ne d L (by decide), mem_cell d L (by decide)⟩⟩),
    peel_sem d L cc0_scratch11 (Finset.mem_erase.mpr ⟨cell_ne d L (by decide), Finset.mem_erase.mpr ⟨cell_ne d L (by decide), Finset.mem_erase.mpr ⟨cell_ne d L (by decide), mem_cell d L (by decide)⟩⟩⟩),
    peel_sem d L cc0_scratch12 (Finset.mem_erase.mpr ⟨cell_ne d L (by decide), Finset.mem_erase.mpr ⟨cell_ne d L (by decide), Finset.mem_erase.mpr ⟨cell_ne d L (by decide), Finset.mem_erase.mpr ⟨cell_ne d L (by decide), mem_cell d L (by decide)⟩⟩⟩⟩),
    peel_sem d L cc0_scratch13 (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), mem_cell d L (by decide)⟩⟩⟩⟩⟩),
    peel_sem d L cc0_scoped0 (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), mem_cell d L (by decide)⟩⟩⟩⟩⟩⟩),
    peel_sem d L cc0_scoped1 (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), mem_cell d L (by decide)⟩⟩⟩⟩⟩⟩⟩)]
  unfold sems
  simp only [sep_assoc_q]

abbrev slot (b : Ref sig .scVector) : DevRef τ sig := (Proc.scVector (cL L) (jL L)).devRef b

omit [FloatOps F] in
theorem slot_ne {a b : Ref sig .scVector} (h : a ≠ b) : slot L a ≠ slot L b := fun e => absurd (Proc.devRef_injective _ e) h

omit [FloatOps F] in
theorem mem_slot {b : Ref sig .scVector} (h : (slot L b).owner = .proc (.scVector (cL L) (jL L))) : slot L b ∈ ownRefs (τ := τ) (.scVector (cL L) (jL L)) :=
  SparseCore.Cfg.mem_ownRefs_of_owner (p := Proc.scVector (cL L) (jL L)) (b := slot L b) h

/-- A buffer at some contents. -/
abbrev held (b : DevRef τ sig) : sProp (MT nD τ sig (HIx 1) (Elt F) ℕ UU ℕ) := iprop(∃ f, ((d, b) : Loc nD τ sig) ↦{fullShare} f)

omit [FloatOps F] in
theorem peel_buf (b : Ref sig .scVector) {I : Finset (DevRef τ sig)} (h : slot L b ∈ I) :
    (bigSep I fun b => held (F := F) d b) = iprop(held (F := F) d (slot L b) ∗ bigSep (I.erase (slot L b)) fun b => held (F := F) d b) :=
  SparseCore.bigSep_erase' h

/-- The tile's buffers beside those the program names. -/
abbrev otherBufs : Finset (DevRef τ sig) := ((((((((ownRefs (τ := τ) (.scVector (cL L) (jL L))).erase (slot L cc0_scratch0)).erase (slot L cc0_scratch1)).erase (slot L cc0_scratch2)).erase (slot L cc0_scratch3)).erase (slot L cc0_scratch4)).erase (slot L cc0_scratch5)).erase (slot L cc0_scratch6)).erase (slot L cc0_scratch7)

omit [FloatOps F] in
theorem ownBufs_eq : (ownBufs (thr d L) : sProp 𝕄) = iprop(bufs d L ∗ bigSep (otherBufs L) fun b => held (F := F) d b) := by
  unfold SparseCore.Cfg.ownBufs
  refine (peel_buf d L cc0_scratch0 (mem_slot L rfl)).trans ?_
  rw [peel_buf d L cc0_scratch1 (Finset.mem_erase.mpr ⟨slot_ne L (by decide), mem_slot L rfl⟩),
    peel_buf d L cc0_scratch2 (Finset.mem_erase.mpr ⟨slot_ne L (by decide), Finset.mem_erase.mpr ⟨slot_ne L (by decide), mem_slot L rfl⟩⟩),
    peel_buf d L cc0_scratch3 (Finset.mem_erase.mpr ⟨slot_ne L (by decide), Finset.mem_erase.mpr ⟨slot_ne L (by decide), Finset.mem_erase.mpr ⟨slot_ne L (by decide), mem_slot L rfl⟩⟩⟩),
    peel_buf d L cc0_scratch4 (Finset.mem_erase.mpr ⟨slot_ne L (by decide), Finset.mem_erase.mpr ⟨slot_ne L (by decide), Finset.mem_erase.mpr ⟨slot_ne L (by decide), Finset.mem_erase.mpr ⟨slot_ne L (by decide), mem_slot L rfl⟩⟩⟩⟩),
    peel_buf d L cc0_scratch5 (Finset.mem_erase.mpr ⟨slot_ne L (by decide), Finset.mem_erase.mpr ⟨slot_ne L (by decide), Finset.mem_erase.mpr ⟨slot_ne L (by decide), Finset.mem_erase.mpr ⟨slot_ne L (by decide), Finset.mem_erase.mpr ⟨slot_ne L (by decide), mem_slot L rfl⟩⟩⟩⟩⟩),
    peel_buf d L cc0_scratch6 (Finset.mem_erase.mpr ⟨slot_ne L (by decide), Finset.mem_erase.mpr ⟨slot_ne L (by decide), Finset.mem_erase.mpr ⟨slot_ne L (by decide), Finset.mem_erase.mpr ⟨slot_ne L (by decide), Finset.mem_erase.mpr ⟨slot_ne L (by decide), Finset.mem_erase.mpr ⟨slot_ne L (by decide), mem_slot L rfl⟩⟩⟩⟩⟩⟩),
    peel_buf d L cc0_scratch7 (Finset.mem_erase.mpr ⟨slot_ne L (by decide), Finset.mem_erase.mpr ⟨slot_ne L (by decide), Finset.mem_erase.mpr ⟨slot_ne L (by decide), Finset.mem_erase.mpr ⟨slot_ne L (by decide), Finset.mem_erase.mpr ⟨slot_ne L (by decide), Finset.mem_erase.mpr ⟨slot_ne L (by decide), Finset.mem_erase.mpr ⟨slot_ne L (by decide), mem_slot L rfl⟩⟩⟩⟩⟩⟩⟩)]
  unfold bufs
  simp only [sep_assoc_q]

end Own

/-! ## What each tile is handed -/

/-- The tile's share of an array that every tile reads. -/
abbrev qL (L : grid0.Coords) : PosShare TreeShare := leaf 4 (leaf 1 fullShare ⟨(L 0).val, (L 0).isLt⟩) ⟨(L 1).val, (L 1).isLt⟩

/-- The arrays the call is given on one device: the features, the logits turned, the labels, the centres, and the result's old contents. -/
structure Given (F : FTy → Type) where
  X : FVec F S16384x128 .f32
  T : FVec F S1000x16384 .f32
  y : S16384.Idx → BitVec 32
  C : FVec F S1000x128 .f32
  o : FVec F S32x16 .f32

/-- The labels are in range. -/
abbrev Given.Ok (g : Given F) : Prop := ∀ j, (g.y j).toNat < 1000

/-- A buffer as the TensorCore names it. -/
abbrev tcLoc (d : Dev nD) (b : Ref sig .tc) : Loc nD τ sig := (SparseCore.T d).loc b

abbrev rowPt (d : Dev nD) (L : grid0.Coords) (f : FVec F S32x16 .f32) : sProp (MT nD τ sig (HIx 1) (Elt F) ℕ UU ℕ) :=
  iprop((oRK L).view.loc (thr d L) ↦[(oRK L).view.set]{fullShare} f)
def tileIn (d : Dev nD) (L : grid0.Coords) (g : Given F) : sProp (MT nD τ sig (HIx 1) (Elt F) ℕ UU ℕ) :=
  iprop(shares d L (qL L) g.X g.T g.y g.C ∗ rowPt d L g.o)
def tileBack (d : Dev nD) (L : grid0.Coords) (g : Given F) : sProp (MT nD τ sig (HIx 1) (Elt F) ℕ UU ℕ) :=
  iprop(shares d L (qL L) g.X g.T g.y g.C ∗ rowPt d L (outAll g.X g.T g.y g.C))

omit [FloatOps F] in
theorem storable_in (d : Dev nD) (L : grid0.Coords) (g : Given F) : BI.Storable (upEmb : UEmb _ 𝕄) (tileIn d L g) := by
  unfold tileIn; infer_instance
theorem storable_back (d : Dev nD) (L : grid0.Coords) (g : Given F) : BI.Storable (upEmb : UEmb _ 𝕄) (tileBack d L g) := by
  unfold tileBack; infer_instance
attribute [instance] storable_in storable_back

theorem nCore_eq (q : Fin 1) : (K (F := F)).nCore q = grid0.bound 0 := by
  match q with | 0 => rfl
theorem nSub_eq (q : Fin 1) : (K (F := F)).nSub q = grid0.bound 1 := by
  match q with | 0 => rfl
/-- The tile of a task of the call. -/
def co (q : Fin 1) (c : Fin ((K (F := F)).nCore q)) (i : Fin ((K (F := F)).nSub q)) : grid0.Coords :=
  coordsV (Fin.cast (nCore_eq (F := F) q) c) (Fin.cast (nSub_eq (F := F) q) i)

variable (g : Dev nD → Given F)

/-- What the call's handshakes carry: each SparseCore is given what its tiles are given. -/
def P : (K (F := F)).Pay (nD := nD) (Val := Elt F) (Name := ℕ) (U := UU) where
  st := fun q d c => bigSep Finset.univ fun i => tileIn d (co (F := F) q c i) (g d)
  dn := fun q d c => bigSep Finset.univ fun i => tileBack d (co (F := F) q c i) (g d)
  go := fun q d c i => tileIn d (co (F := F) q c i) (g d)
  td := fun q d c i => tileBack d (co (F := F) q c i) (g d)
  x := fun _ _ => iprop(emp)

instance P_storable : (P (F := F) g).IsStorable where
  st q d c := (inferInstance : BI.Storable (upEmb : UEmb _ 𝕄) (bigSep Finset.univ fun i => tileIn d (co (F := F) q c i) (g d)))
  dn q d c := (inferInstance : BI.Storable (upEmb : UEmb _ 𝕄) (bigSep Finset.univ fun i => tileBack d (co (F := F) q c i) (g d)))
  go q d c i := (inferInstance : BI.Storable (upEmb : UEmb _ 𝕄) (tileIn d (co (F := F) q c i) (g d)))
  td q d c i := (inferInstance : BI.Storable (upEmb : UEmb _ 𝕄) (tileBack d (co (F := F) q c i) (g d)))

/-! ## The tile's obligation -/

theorem tile_body (d : Dev nD) (L : grid0.Coords) (hg : (g d).Ok) (O : CellTallies nD τ sig (HIx 1)) (W : Waits sig (HIx 1)) (hO : ∀ g, O g none = 0) :
    iprop(levAts (K (F := F)).L (K (F := F)).lev ∗ emp ∗ tileIn d L (g d) ∗ scopedBufs (thr d L) ∗ scopedSems0 (thr d L) ∗ owes (thr d L) O W)
      ⊢ wp frame (wpE (defs₀ (F := F)) 𝒱₀ (thr d L) none) Set.univ (onBufs L (cc0__sc_body (F := F)))
          fun _ => iprop(tileBack d L (g d) ∗ scopedBufs (thr d L) ∗ scopedSems0 (thr d L)
            ∗ ∃ W', ⌜∀ p ∈ W', p ∈ W ∨ p.2 = none ∨ p.2 = Option.some (0 : Fin 1)⌝ ∗ owes (thr d L) O W') := by
  rw [(K (F := F)).scopedBufs_V facts d (cL L) (jL L), SparseCore.Cfg.scopedSems0_V (Val := Elt F) d (cL L) (jL L), ownSems_eq, ownBufs_eq]
  unfold tileIn tileBack
  iintro ⟨#Hlv, -, Hin, ⟨Hb, Hbr⟩, ⟨Hs, Hsr⟩, HO⟩
  iapply ((tile_core d L hO hg (W := W)).trans (wp_wand frame _ _)) $$ [Hin Hb Hs HO]
  · isplitr; · iexact Hlv
    isplitl [Hin]; · iexact Hin
    isplitl [Hb]; · iexact Hb
    isplitl [Hs]; · iexact Hs
    iexists W; isplitr; · ipureintro; exact fun p hp => .inl hp
    iexact HO
  iintro %_ ⟨Hout, Hb, Hs, %W', %hW, HO⟩
  isplitl [Hout]; · iexact Hout
  isplitl [Hb Hbr]; · isplitl [Hb] <;> iassumption
  isplitl [Hs Hsr]; · isplitl [Hs] <;> iassumption
  iexists W'; isplitr; · ipureintro; exact fun p hp => (hW p hp).imp_right Or.inl
  iexact HO

theorem defs₀_vector (c : Fin τ.nSC) (s : Fin τ.nSub) :
    defs₀ (F := F) (.scVector c s) 0 () = SparseCore.onTile hcore0 hsub0 (fun c s => onBufs (coordsV c s) (cc0__sc_body (F := F))) ⟨⟩ c s := rfl

set_option maxRecDepth 16384 in
theorem tileObl (hg : ∀ d, (g d).Ok) : (K (F := F)).TileObl (D (F := F)) 𝒱 (P g) v₀ 0 := by
  intro d c i O W hO _ _
  simp only [show (P g).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body g d (coordsV ⟨_, hci.1⟩ ⟨_, hci.2⟩) (hg d) O W hO

omit [FloatOps F] in
theorem hold_split (A B : sProp 𝕄) : A ⊢ |={Set.univ}=> iprop(A ∗ (B -∗ B)) := by
  iintro H; imodintro
  isplitl [H]; · iexact H
  iintro H; iexact H

theorem vecSplit : (K (F := F)).VecSplit' (P g) 0 := fun _ _ => hold_split _ _

/-! ## The arrays dealt and gathered -/

omit [FloatOps F] in
theorem mem_row (L : grid0.Coords) (i : S32x16.Idx) : i ∈ (oRK L).view.set ↔ (i 0).val = 2 * (L 1).val + (L 0).val := by
  constructor
  · intro h
    obtain ⟨x, -, rfl⟩ := Finset.mem_map.mp h
    exact (emb_row L x).1
  · intro h
    have : i = (oRK L).view.emb (Fin.cons (i 1) finZeroElim) := by
      funext a; apply Fin.ext
      match a with
      | ⟨0, _⟩ => exact h.trans (emb_row L _).1.symm
      | ⟨1, _⟩ => exact (emb_row L (Fin.cons (i 1) finZeroElim)).2.symm
    rw [this]; exact View.emb_mem_set _ _

abbrev rowSet (c : Fin 2) (s : Fin 16) : Finset S32x16.Idx := (oRK (coordsV c s)).view.set
abbrev coreSet (c : Fin 2) : Finset S32x16.Idx := Finset.univ.biUnion fun s => rowSet c s

omit [FloatOps F] in
theorem mem_rowSet (c : Fin 2) (s : Fin 16) (i : S32x16.Idx) : i ∈ rowSet c s ↔ (i 0).val = 2 * s.val + c.val := mem_row (coordsV c s) i
omit [FloatOps F] in
theorem mem_coreSet (c : Fin 2) (i : S32x16.Idx) : i ∈ coreSet c ↔ (i 0).val % 2 = c.val := by
  have hi : (i 0).val < 32 := (i 0).isLt
  simp only [coreSet, Finset.mem_biUnion, Finset.mem_univ, true_and, mem_rowSet]
  constructor
  · rintro ⟨s, h⟩; omega
  · intro h; exact ⟨⟨(i 0).val / 2, by omega⟩, by show _ = 2 * ((i 0).val / 2) + _; omega⟩

variable (d : Dev nD)

omit [FloatOps F] in
theorem cores_cover : (Finset.univ : Finset (Fin 2)).biUnion coreSet = Finset.univ :=
  Finset.eq_univ_iff_forall.mpr fun i => Finset.mem_biUnion.mpr
    ⟨⟨(i 0).val % 2, Nat.mod_lt _ (by decide)⟩, Finset.mem_univ _, (mem_coreSet _ i).mpr rfl⟩
omit [FloatOps F] in
theorem cores_disjoint : ∀ a ∈ (Finset.univ : Finset (Fin 2)), ∀ b ∈ (Finset.univ : Finset (Fin 2)), a ≠ b → Disjoint (coreSet a) (coreSet b) :=
  fun a _ b _ hab => Finset.disjoint_left.mpr fun i ha hb => hab (Fin.ext (((mem_coreSet a i).mp ha).symm.trans ((mem_coreSet b i).mp hb)))
omit [FloatOps F] in
theorem rows_disjoint (c : Fin 2) : ∀ a ∈ (Finset.univ : Finset (Fin 16)), ∀ b ∈ (Finset.univ : Finset (Fin 16)), a ≠ b → Disjoint (rowSet c a) (rowSet c b) := by
  refine fun a _ b _ hab => Finset.disjoint_left.mpr fun i ha hb => hab (Fin.ext ?_)
  have ha := (mem_rowSet c a i).mp ha
  have hb := (mem_rowSet c b i).mp hb
  omega

omit [FloatOps F] in
theorem out_rows (f : Buf (Elt F) (tcLoc d main_v1)) :
    ((tcLoc d main_v1 ↦{fullShare} f) : sProp 𝕄)
      = bigSep Finset.univ fun c : Fin 2 => bigSep Finset.univ fun s : Fin 16 => (tcLoc d main_v1 ↦[rowSet c s]{fullShare} f) := by
  rw [← bigSep_congr fun c _ => pointsTo_biUnion Finset.univ (ℓ := tcLoc d main_v1) (rowSet c) (rows_disjoint c),
    ← pointsTo_biUnion Finset.univ (ℓ := tcLoc d main_v1) coreSet cores_disjoint, cores_cover]; try rfl

omit [FloatOps F] in
theorem read_shares {ℓ : Loc nD τ sig} (f : Buf (Elt F) ℓ) :
    ((ℓ ↦{fullShare} f) : sProp 𝕄) = bigSep Finset.univ fun c : Fin 2 => bigSep Finset.univ fun s : Fin 16 => (ℓ ↦{qL (coordsV c s)} f) := by
  rw [pointsTo_leaves Finset.univ f 1 fullShare]
  exact bigSep_congr fun c _ => pointsTo_leaves Finset.univ f 4 _

/-- The call's operands and its result, as its SparseCores and their tiles hold them. -/
theorem dealt (X : FVec F S16384x128 .f32) (A : FVec F S1000x16384 .f32) (y : S16384.Idx → BitVec 32) (C : FVec F S1000x128 .f32) (f : FVec F S32x16 .f32) :
    (bigSep Finset.univ fun c : Fin ((K (F := F)).nCore 0) => bigSep Finset.univ fun i : Fin ((K (F := F)).nSub 0) =>
        iprop(shares d (co (F := F) 0 c i) (qL (co (F := F) 0 c i)) X A y C ∗ rowPt d (co (F := F) 0 c i) f))
      = (iprop(((tcLoc d main_arg0 ↦{fullShare} X) ∗ (tcLoc d main_v0 ↦{fullShare} A) ∗ (tcLoc d main_arg2 ↦{fullShare} y)
          ∗ (tcLoc d main_arg3 ↦{fullShare} C)) ∗ (tcLoc d main_v1 ↦{fullShare} f)) : sProp 𝕄) := by
  rw [read_shares (ℓ := tcLoc d main_arg0), read_shares (ℓ := tcLoc d main_v0), read_shares (ℓ := tcLoc d main_arg2), read_shares (ℓ := tcLoc d main_arg3),
    out_rows, ← bigSep_sep', ← bigSep_sep', ← bigSep_sep', ← bigSep_sep']
  refine bigSep_congr fun c _ => ?_
  rw [← bigSep_sep', ← bigSep_sep', ← bigSep_sep', ← bigSep_sep']
  rfl

theorem st0_eq : (bigSep Finset.univ fun c : Fin ((K (F := F)).nCore 0) => (P g).st 0 d c)
    = iprop(((tcLoc d main_arg0 ↦{fullShare} (g d).X) ∗ (tcLoc d main_v0 ↦{fullShare} (g d).T) ∗ (tcLoc d main_arg2 ↦{fullShare} (g d).y)
          ∗ (tcLoc d main_arg3 ↦{fullShare} (g d).C)) ∗ (tcLoc d main_v1 ↦{fullShare} (g d).o)) :=
  dealt d _ _ _ _ _
theorem dn0_eq : (bigSep Finset.univ fun c : Fin ((K (F := F)).nCore 0) => (P g).dn 0 d c)
    = iprop(((tcLoc d main_arg0 ↦{fullShare} (g d).X) ∗ (tcLoc d main_v0 ↦{fullShare} (g d).T) ∗ (tcLoc d main_arg2 ↦{fullShare} (g d).y)
          ∗ (tcLoc d main_arg3 ↦{fullShare} (g d).C)) ∗ (tcLoc d main_v1 ↦{fullShare} outAll (g d).X (g d).T (g d).y (g d).C)) :=
  dealt d _ _ _ _ _

end Cert.Proof.Center

end
-- ==== Proof.Region.lean ====
/-
The TensorCore's part of the call: what its pipeline holds point by point, the body's obligation, and the array it leaves.
-/
module

public import proofs.«01_k».proof.Proof.Launch
public import proofs.«01_k».proof.Proof.Gen.KernelIdeal.Launch
public import proofs.«01_k».proof.Proof.Gen.KernelIdeal.Points
public import Idealize.ShloMosaic.Lib.Pipeline.Frame
public import Idealize.ShloMosaic.Lib.Pipeline.Value
public import Idealize.ShloMosaic.Lib.Pipeline.ValueKit.Geometry
public import Idealize.ShloMosaic.Lib.Pipeline.RegionArrays

@[expose] public section

noncomputable section

namespace Cert.Proof.Center

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.Pipeline (Dat Cfg Window BodyObligation)
open Idealize.ShloMosaic.TcCoe

variable [FloatOps F]

/-! ## Whole staging buffers -/

omit [FloatOps F] in
theorem read_all {sp : Space} {s : Shape} {e : EltTy} {m : Memref sig .tc sp s e} (h : m.IsWhole) {off : Fin s.rank → ℕ}
    (h0 : off = fun _ => 0) (inb : ∀ a, off a + s.size a ≤ s.size a) (f : m.view.ty.Contents (Elt F)) :
    m.view.readAt (Elt F) (Rect.unit off s.size inb).toLoadRect f = m.view.read (Elt F) f := by
  obtain ⟨b, rfl, rfl, rfl, h⟩ := h; cases h
  exact Memref.readAt_unit_zero (Elt F) b h0 inb f

omit [FloatOps F] in
theorem write_all {sp : Space} {s : Shape} {e : EltTy} {m : Memref sig .tc sp s e} (h : m.IsWhole) {off : Fin s.rank → ℕ}
    (h0 : off = fun _ => 0) (inb : ∀ a, off a + s.size a ≤ s.size a) (f : m.view.ty.Contents (Elt F)) (w : s.Idx → Elt F e) :
    m.view.read (Elt F) ((m.access (Rect.unit off s.size inb)).write (Elt F) f w Finset.univ) = w := by
  obtain ⟨b, rfl, rfl, rfl, h⟩ := h; cases h
  exact Memref.write_access_unit_zero_univ (Elt F) b h0 inb f w

theorem off_zero : (![0, 0] : Fin 2 → ℕ) = fun _ => 0 := funext fun a => by fin_cases a <;> rfl

/-- The body on any whole buffers: the third is left at the sum the first two make. -/
theorem tc_run (c : Dev nD) (i : grid1.Coords) (a1 : Memref sig .tc .vmem S896x2048 .f32) (h1 : a1.IsWhole)
    (a2 : Memref sig .tc .vmem S1x2048 .i32) (h2 : a2.IsWhole) (a3 : Memref sig .tc .vmem S1x2048 .f32) (h3 : a3.IsWhole)
    (X1 : S896x2048.Idx → Elt F .f32) (X2 : S1x2048.Idx → Elt F .i32) (X3 : S1x2048.Idx → Elt F .f32) (Q : PUnit → sProp (MT nD τ sig (HIx 1) (Elt F) ℕ UU ℕ)) :
    iprop((owns (c : Thread nD τ) a1 fullShare X1 ∗ owns (c : Thread nD τ) a2 fullShare X2 ∗ owns (c : Thread nD τ) a3 fullShare X3)
        ∗ (iprop(owns (c : Thread nD τ) a1 fullShare X1 ∗ owns (c : Thread nD τ) a2 fullShare X2
            ∗ owns (c : Thread nD τ) a3 fullShare (k1_pay1 X2 X1)) -∗ Q ⟨⟩))
      ⊢ wp frame (wpE (defs₀ (F := F)) 𝒱₀ (c : Thread nD τ) none) Set.univ (cc1__tc_body i a1 h1 a2 h2 a3 h3) Q := by
  rw [cc1__tc_body_eq_skeleton]; unfold cc1__tc_body_skel owns
  rw [h1.set_eq_univ, h2.set_eq_univ, h3.set_eq_univ]
  simp only [Prog.lift, Prog.bind_op, Prog.bind_ret]
  iintro ⟨⟨⟨%f1, %e1, H1⟩, ⟨%f2, %e2, H2⟩, ⟨%f3, %e3, H3⟩⟩, Hk⟩
  sl_steps
  iapply Hk
  isplitl [H1]
  · iexists f1; isplitr; · ipureintro; exact e1
    iexact H1
  isplitl [H2]
  · iexists f2; isplitr; · ipureintro; exact e2
    iexact H2
  · iexists _; isplitr; swap; (· iexact H3); ipureintro
    rw [read_all h1 off_zero, read_all h2 off_zero, write_all h3 off_zero, e1, e2]

/-! ## The proof data -/

/-- What the TensorCore's call is given on a device: the two arrays it reads and the one it fills. -/
structure TGiven (F : FTy → Type) where
  T : S1000x16384.Idx → Elt F .f32
  y : S1x16384.Idx → Elt F .i32
  o : S1x16384.Idx → Elt F .f32

section Vals

variable (T : S1000x16384.Idx → Elt F .f32) (y : S1x16384.Idx → Elt F .i32)

/-- Column `x` of block `t`, in the whole array. -/
def col (t : ℕ) (x : ℕ) : Fin 16384 := ⟨(t * 2048 + x) % 16384, Nat.mod_lt _ (by decide)⟩

omit [FloatOps F] in
/-- Block `t` of the transposed logits: the first 896 classes of 2048 rows. -/
def lblk (t : ℕ) : S896x2048.Idx → Elt F .f32 :=
  fun x => T (fun | ⟨0, _⟩ => ⟨(x 0).val, Nat.lt_of_lt_of_le (x 0).isLt (show 896 ≤ 1000 by decide)⟩ | ⟨1, _⟩ => col t (x 1).val)

omit [FloatOps F] in
/-- Their labels. -/
def yblk (t : ℕ) : S1x2048.Idx → Elt F .i32 :=
  fun x => y (fun | ⟨0, _⟩ => x 0 | ⟨1, _⟩ => col t (x 1).val)

/-- What block `t` of the array is left at. -/
def tcAt (t : ℕ) (x : S1x2048.Idx) : F .f32 := k1_pay1 (yblk y t) (lblk T t) x

/-- The array the call leaves. -/
def tcOut : FVec F S1x16384 .f32 :=
  fun i => tcAt T y ((i 1).val / 2048) (fun | ⟨0, _⟩ => i 0 | ⟨1, _⟩ => (⟨(i 1).val % 2048, Nat.mod_lt _ (by decide)⟩ : Fin 2048))

end Vals

variable (r : Dev nD → TGiven F)

/-- The pairs a wait of the TensorCore may have recorded by then: those at or below the first call's levels. -/
def lowPairs (c : Dev nD) : Set (SemLoc sig × HIx 1) := {p | (K (F := F)).lev ((c : Thread nD τ), p.1) p.2 ≤ 8}

def dats (_ : Fin 1) (c : Dev nD) : Dat τ (Elt F) (HIx 1) ℕ UU ℕ cfg1 c where
  A w := match w with
    | ⟨0, _⟩ => (r c).T
    | ⟨1, _⟩ => (r c).y
    | ⟨2, _⟩ => (r c).o
  after w t := match w with
    | ⟨0, _⟩ => lblk (r c).T t.val
    | ⟨1, _⟩ => yblk (r c).y t.val
    | ⟨2, _⟩ => k1_pay1 (yblk (r c).y t.val) (lblk (r c).T t.val)
  Φ _ := iprop(emp)
  q _ := fullShare
  owed _ := 0
  recorded _ := lowPairs (F := F) c

theorem idx1_0 : ∀ t : Fin cfg1.N, win1_0.index t = ![0, t.val] := (by decide +kernel : ∀ t : Fin grid1.N, _)
theorem idx1_1 : ∀ t : Fin cfg1.N, win1_1.index t = ![0, t.val] := (by decide +kernel : ∀ t : Fin grid1.N, _)
theorem idx1_2 : ∀ t : Fin cfg1.N, win1_2.index t = ![0, t.val] := (by decide +kernel : ∀ t : Fin grid1.N, _)
theorem clip1_0 : ∀ t : Fin cfg1.N, ∀ a, (cfg1.win 0).xsize (cfg1.grid.coords t) a = (cfg1.win 0).size a :=
  (by decide +kernel : ∀ t : Fin grid1.N, _)

theorem before_0 (c : Dev nD) (t : Fin cfg1.N) (d) : (dats r 0 c).before 0 t d = lblk (r c).T t.val := by
  unfold Dat.before; rw [if_pos (fetch1_0 t)]
  unfold Dat.fetched
  funext x
  have hm : (cfg1.win 0).moved (cfg1.grid.coords t) x = true :=
    ((cfg1.win 0).moved_iff _ x).mpr fun a => by rw [clip1_0]; exact (x a).isLt
  unfold Window.fill; rw [dif_pos hm]
  unfold Dat.blockOf lblk
  have hN : t.val < 8 := lt_of_lt_of_eq t.isLt N_1
  blk_simp [idx1_0]
  refine congrArg (r c).T (funext fun a => Fin.ext ?_)
  have hx1 : (x 1).val < 2048 := (x 1).isLt
  have h0 : ∀ z : (win1_0.xblock (grid1.coords t)).Idx, (((win1_0.blk t).view.emb z) 0 : ℕ) = (z 0).val := fun z => by
    blk_simp [idx1_0]
  have h1 : ∀ z : (win1_0.xblock (grid1.coords t)).Idx, (((win1_0.blk t).view.emb z) 1 : ℕ) = t.val * 2048 + (z 1).val := fun z => by
    blk_simp [idx1_0]
  match a with
  | ⟨0, _⟩ => exact h0 _
  | ⟨1, _⟩ => exact (h1 _).trans (Nat.mod_eq_of_lt (show t.val * 2048 + (x 1).val < 16384 by omega)).symm

theorem before_1 (c : Dev nD) (t : Fin cfg1.N) (d) : (dats r 0 c).before 1 t d = yblk (r c).y t.val := by
  unfold Dat.before; rw [if_pos (fetch1_1 t)]
  funext x
  have hN : t.val < 8 := lt_of_lt_of_eq t.isLt N_1
  show (dats r 0 c).blockOf 1 t x = _
  unfold Dat.blockOf yblk
  blk_simp [idx1_1]
  refine congrArg (r c).y (funext fun a => Fin.ext ?_)
  have hx1 : (x 1).val < 2048 := (x 1).isLt
  match a with
  | ⟨0, _⟩ =>
    have h : (((win1_1.blk t).view.emb x) 0 : ℕ) = (x 0).val := by
      blk_simp [idx1_1]
    exact h
  | ⟨1, _⟩ =>
    have h : (((win1_1.blk t).view.emb x) 1 : ℕ) = (t.val * 2048 + (x 1).val) % 16384 := by
      rw [Nat.mod_eq_of_lt (by omega)]
      blk_simp [idx1_1]
    exact h

theorem arr_out (c : Dev nD) : (dats r 0 c).arrAt 2 cfg1.N = tcOut (r c).T (r c).y := by
  refine (dats r 0 c).arrAt_eq_of_covers 2 _ (by decide +kernel) fun t hf y => ?_
  blk_simp
  have hN : t.val < 8 := lt_of_lt_of_eq t.isLt N_1
  have hy1 : (y 1).val < 2048 := (y 1).isLt
  have e0 : (((win1_2.blk t).view.emb y) 0 : ℕ) = (y 0).val := by blk_simp [idx1_2]
  have e1 : (((win1_2.blk t).view.emb y) 1 : ℕ) = t.val * 2048 + (y 1).val := by blk_simp [idx1_2]
  have eq : (((win1_2.blk t).view.emb y) 1 : ℕ) / 2048 = t.val := by rw [e1]; omega
  have er : (((win1_2.blk t).view.emb y) 1 : ℕ) % 2048 = (y 1).val := by rw [e1]; omega
  have ei : (fun | ⟨0, _⟩ => ((win1_2.blk t).view.emb y) 0 | ⟨1, _⟩ => (⟨(((win1_2.blk t).view.emb y) 1).val % 2048, Nat.mod_lt _ (by decide)⟩ : Fin 2048) : S1x2048.Idx) = y := by
    funext a; refine Fin.ext ?_
    match a with
    | ⟨0, _⟩ => exact e0
    | ⟨1, _⟩ => exact er
  exact congrArg₂ (tcAt (r c).T (r c).y) eq.symm ei.symm

theorem body_obligation (c : Dev nD) : BodyObligation (dats r 0 c) (defs₀ (F := F)) 𝒱₀ none Set.univ := fun t => by
  rw [bigSep_W1, bigSep_W1]
  simp only
  rw [show (dats r 0 c).Φ t.succ = (dats r 0 c).Φ t.castSucc from rfl,
    show (dats r 0 c).owesAt none t.succ = (dats r 0 c).owesAt none t.castSucc from rfl]
  iintro ⟨HΦ, Ho, ⟨%d0, H0⟩, ⟨%d1, H1⟩, ⟨%d2, H2⟩⟩
  rw [before_0 r c t d0, before_1 r c t d1]
  iapply (tc_run c (grid1.coords t) _ (hstage1_0 ((cfg1.slots t 0).cast nbuf1_0)) _ (hstage1_1 ((cfg1.slots t 1).cast nbuf1_1)) _ (hstage1_2 ((cfg1.slots t 2).cast nbuf1_2)) (lblk (r c).T t.val) (yblk (r c).y t.val) _ _)
  isplitl [H0 H1 H2]
  · isplitl [H0]; · iexact H0
    isplitl [H1]; · iexact H1
    iexact H2
  iintro ⟨H0, H1, H2⟩
  isplitl [HΦ]; · iexact HΦ
  isplitl [Ho]; · iexact Ho
  isplitl [H0]; · iexact H0
  isplitl [H1]; · iexact H1
  iexact H2

/-! ## The region -/

/-- No table is prefetched. -/
abbrev adm : (p : Fin 1) → (pcfgs (F := F) p).Adm := fun p => (cfgs p).toPCfg_adm

/-- The pipeline's part of the ghost state. -/
abbrev EP : Emb UP (MT nD τ sig (HIx 1) (Elt F) ℕ UU ℕ) :=
  (Emb.inl : Emb UP (UP × Counters)).trans embR

instance : (EP (F := F)).LandsIn (upEmb : UEmb _ (MT nD τ sig (HIx 1) (Elt F) ℕ UU ℕ)) := by unfold EP embR; infer_instance

/-- What the core owes while it holds nothing above the first call's levels. -/
abbrev owesLow (c : Dev nD) : sProp (MT nD τ sig (HIx 1) (Elt F) ℕ UU ℕ) :=
  iprop(∃ W, ⌜(K (F := F)).WBelow (c : Thread nD τ) W 8⌝ ∗ owes (c : Thread nD τ) (0 : CellTallies nD τ sig (HIx 1)) W)

/-- The three arrays of the call. -/
abbrev three (c : Dev nD) (o : S1x16384.Idx → Elt F .f32) : sProp (MT nD τ sig (HIx 1) (Elt F) ℕ UU ℕ) :=
  iprop((tcLoc c main_v0 ↦{fullShare} (r c).T) ∗ (tcLoc c main_v2 ↦{fullShare} (r c).y) ∗ (tcLoc c main_v3 ↦{fullShare} o))

theorem arrays_three (c : Dev nD) (X : (w : Fin cfg1.W) → Buf (Elt F) ((cfg1.win w).arr.view.loc (c : Thread nD τ))) :
    ((dats r 0 c).arrays X : sProp 𝕄)
      = iprop((tcLoc c main_v0 ↦{fullShare} X 0) ∗ (tcLoc c main_v2 ↦{fullShare} X 1) ∗ (tcLoc c main_v3 ↦{fullShare} X 2)) := by
  rw [Pipeline.arrays_eq (Pipeline.pin (pcfgs (F := F)) adm) (dats r) 0 c arr_whole1 ((dats r 0 c).share_full fun _ => rfl) X, bigSep_W1]

set_option backward.isDefEq.respectTransparency.types false in
def reg : Pipeline.RegionSeg (pcfgs (F := F)) adm (dats r) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation r c).loose
  hwaits := Pipeline.hwaits_of_owed_zero _ _ _ _ (K (F := F)).L (K (F := F)).lev 0 fun _ _ => rfl
  pre c := iprop(three r c (r c).o ∗ owesLow c)
  post c := iprop(three r c (tcOut (r c).T (r c).y) ∗ owesLow c)
  X _ := iprop(emp)
  Y _ := iprop(emp)
  Z _ := iprop(emp)
  hentry c := by
    rw [Pipeline.ownSems0_none, Pipeline.prefHeld_of_none _ rfl]
    iintro ⟨⟨Ha, ⟨%W, %hW, HO⟩⟩, -, -⟩
    imodintro
    isplitl [Ha]
    · iapply (Entails.of_eq (arrays_three r c _).symm); iexact Ha
    isplitr; · iempintro
    isplitl [HO]
    · unfold Pipeline.Dat.owesAt Pipeline.owesWithin
      iexists W; isplitr; · ipureintro; exact fun p hp => Or.inl (hW p hp)
      iexact HO
    isplitr <;> iempintro
  hin c := by rw [scopedRest1_eq]; iintro -; iempintro
  hout c := by rw [scopedRest1_eq, Pipeline.ownSems0_none]; iintro -; isplitr; · iempintro
               isplitr <;> iempintro
  hexit c := by
    iintro ⟨Ha, HO, -, -⟩
    imodintro
    isplitl [Ha]
    · ihave Ha' := (Entails.of_eq (arrays_three r c _)) $$ Ha
      rw [arr_out, (dats r 0 c).arrAt_in 0 rfl, (dats r 0 c).arrAt_in 1 rfl]
      iexact Ha'
    · unfold Pipeline.Dat.owesAt Pipeline.owesWithin
      icases HO with ⟨%W, %hW, HO⟩; iexists W; isplitr
      · ipureintro; intro p hp
        rcases hW hp with h | ⟨w, s, rfl⟩
        · exact h
        · exact Nat.zero_le _
      iexact HO

end Cert.Proof.Center

end
-- ==== Proof.Main.lean ====
/-
The whole program's run: the host's operations, the SparseCore's call and the TensorCore's one after another, and what the result holds.
-/
module

public import proofs.«01_k».proof.Proof.Region

@[expose] public section

noncomputable section

namespace Cert.Proof.Center

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.TcCoe
open Idealize.ShloMosaic.StableHlo (held wp_hlo_within)

variable [FloatOps F]

/-! ## One host operation, its buffers held one by one -/

section Host

variable {Λ : Labels} {defs : Defs nD τ sig (Elt F) Λ} (𝒱' : Variants) (d : Dev nD) (bd : Option 𝒱'.V) (E : Set ℕ)
variable (V₁ : Valuation τ sig (Elt F)) {hp : (SparseCore.T d : Thread nD τ).2.kind.runsHlo = true} {op : HloOp τ sig (Elt F)} {Q : PUnit → sProp (MT nD τ sig (HIx 1) (Elt F) ℕ UU ℕ)}

abbrev pt (b : Ref sig .tc) (f : Buf (Elt F) (tcLoc d b)) : sProp (MT nD τ sig (HIx 1) (Elt F) ℕ UU ℕ) := tcLoc d b ↦{fullShare} f

include V₁ in
omit [FloatOps F] in
theorem wp_one {y : Ref sig .tc} (hb : op.bufs = {Proc.devRef .tc y}) {v : y.ty.Contents (Elt F)} (hf : op.fresh = ∅)
    (hy : ∀ W : Valuation τ sig (Elt F), op.result W (Proc.devRef .tc y) = v) (Y : y.ty.Contents (Elt F)) :
    iprop(boundary (SparseCore.T d) ∗ pt d y Y ∗ ((boundary (SparseCore.T d) ∗ pt d y v) -∗ Q ⟨⟩))
      ⊢ wp frame (wpE defs 𝒱' (SparseCore.T d) bd) E (hlo hp op fun _ => .ret ⟨⟩) Q := by
  iintro ⟨Hb, Hy, Hk⟩
  iapply (wp_hlo_within 𝒱' (SparseCore.T d) bd E (op := op) (subset_refl _) (V := Function.update V₁ (Proc.devRef .tc y) Y) (hf := hf)) $$ [Hb Hy]
  · isplitl [Hb]; · iexact Hb
    unfold StableHlo.held
    rw [hb, bigSep_singleton, Function.update_self]
    iexact Hy
  unfold StableHlo.held
  rw [hb, bigSep_singleton, hy, wp_ret]
  iintro ⟨Hb, Hy⟩
  imodintro
  iapply Hk
  isplitl [Hb] <;> iassumption

include V₁ in
omit [FloatOps F] in
theorem wp_two {x y : Ref sig .tc} (hb : op.bufs = {Proc.devRef .tc x, Proc.devRef .tc y}) (hf : op.fresh = ∅) (hxy : x ≠ y)
    (X : x.ty.Contents (Elt F)) {v : y.ty.Contents (Elt F)}
    (hx : ∀ W : Valuation τ sig (Elt F), op.result W (Proc.devRef .tc x) = W (Proc.devRef .tc x))
    (hy : ∀ W : Valuation τ sig (Elt F), W (Proc.devRef .tc x) = X → op.result W (Proc.devRef .tc y) = v) (Y : y.ty.Contents (Elt F)) :
    iprop(boundary (SparseCore.T d) ∗ pt d x X ∗ pt d y Y ∗ ((boundary (SparseCore.T d) ∗ pt d x X ∗ pt d y v) -∗ Q ⟨⟩))
      ⊢ wp frame (wpE defs 𝒱' (SparseCore.T d) bd) E (hlo hp op fun _ => .ret ⟨⟩) Q := by
  have hne : (Proc.devRef .tc x : DevRef τ sig) ≠ Proc.devRef .tc y := StableHlo.devRef_ne_of_ne hxy
  have hX : Function.update (Function.update V₁ (Proc.devRef .tc x) X) (Proc.devRef .tc y) Y (Proc.devRef .tc x) = X := by
    rw [Function.update_of_ne hne, Function.update_self]
  iintro ⟨Hb, Hx, Hy, Hk⟩
  iapply (wp_hlo_within 𝒱' (SparseCore.T d) bd E (op := op) (subset_refl _)
    (V := Function.update (Function.update V₁ (Proc.devRef .tc x) X) (Proc.devRef .tc y) Y) (hf := hf)) $$ [Hb Hx Hy]
  · isplitl [Hb]; · iexact Hb
    unfold StableHlo.held
    rw [hb, SparseCore.bigSep_insert' (by rw [Finset.mem_singleton]; exact hne), bigSep_singleton, hX, Function.update_self]
    isplitl [Hx] <;> iassumption
  unfold StableHlo.held
  rw [hb, SparseCore.bigSep_insert' (by rw [Finset.mem_singleton]; exact hne), bigSep_singleton, hx, hy _ hX, hX, wp_ret]
  iintro ⟨Hb, Hx, Hy⟩
  imodintro
  iapply Hk
  isplitl [Hb]; · iexact Hb
  isplitl [Hx] <;> iassumption

include V₁ in
omit [FloatOps F] in
theorem wp_three {a b y : Ref sig .tc} (hb : op.bufs = {Proc.devRef .tc a, Proc.devRef .tc b, Proc.devRef .tc y}) (hf : op.fresh = ∅)
    (hab : a ≠ b) (hay : a ≠ y) (hby : b ≠ y) (A : a.ty.Contents (Elt F)) (B : b.ty.Contents (Elt F)) {v : y.ty.Contents (Elt F)}
    (hx : ∀ W : Valuation τ sig (Elt F), op.result W (Proc.devRef .tc a) = W (Proc.devRef .tc a))
    (hx' : ∀ W : Valuation τ sig (Elt F), op.result W (Proc.devRef .tc b) = W (Proc.devRef .tc b))
    (hy : ∀ W : Valuation τ sig (Elt F), W (Proc.devRef .tc a) = A → W (Proc.devRef .tc b) = B → op.result W (Proc.devRef .tc y) = v)
    (Y : y.ty.Contents (Elt F)) :
    iprop(boundary (SparseCore.T d) ∗ pt d a A ∗ pt d b B ∗ pt d y Y
        ∗ ((boundary (SparseCore.T d) ∗ pt d a A ∗ pt d b B ∗ pt d y v) -∗ Q ⟨⟩))
      ⊢ wp frame (wpE defs 𝒱' (SparseCore.T d) bd) E (hlo hp op fun _ => .ret ⟨⟩) Q := by
  have nab : (Proc.devRef .tc a : DevRef τ sig) ≠ Proc.devRef .tc b := StableHlo.devRef_ne_of_ne hab
  have nay : (Proc.devRef .tc a : DevRef τ sig) ≠ Proc.devRef .tc y := StableHlo.devRef_ne_of_ne hay
  have nby : (Proc.devRef .tc b : DevRef τ sig) ≠ Proc.devRef .tc y := StableHlo.devRef_ne_of_ne hby
  have hA : Function.update (Function.update (Function.update V₁ (Proc.devRef .tc a) A) (Proc.devRef .tc b) B) (Proc.devRef .tc y) Y (Proc.devRef .tc a) = A := by
    rw [Function.update_of_ne nay, Function.update_of_ne nab, Function.update_self]
  have hB : Function.update (Function.update (Function.update V₁ (Proc.devRef .tc a) A) (Proc.devRef .tc b) B) (Proc.devRef .tc y) Y (Proc.devRef .tc b) = B := by
    rw [Function.update_of_ne nby, Function.update_self]
  have m1 : (Proc.devRef .tc a : DevRef τ sig) ∉ ({Proc.devRef .tc b, Proc.devRef .tc y} : Finset (DevRef τ sig)) := by
    rw [Finset.mem_insert, Finset.mem_singleton]; exact fun h => h.elim nab nay
  have m2 : (Proc.devRef .tc b : DevRef τ sig) ∉ ({Proc.devRef .tc y} : Finset (DevRef τ sig)) := by
    rw [Finset.mem_singleton]; exact nby
  iintro ⟨Hb, Ha, Hc, Hy, Hk⟩
  iapply (wp_hlo_within 𝒱' (SparseCore.T d) bd E (op := op) (subset_refl _)
    (V := Function.update (Function.update (Function.update V₁ (Proc.devRef .tc a) A) (Proc.devRef .tc b) B) (Proc.devRef .tc y) Y) (hf := hf)) $$ [Hb Ha Hc Hy]
  · isplitl [Hb]; · iexact Hb
    unfold StableHlo.held
    rw [hb, SparseCore.bigSep_insert' m1, SparseCore.bigSep_insert' m2, bigSep_singleton, hA, hB, Function.update_self]
    isplitl [Ha]; · iexact Ha
    isplitl [Hc] <;> iassumption
  unfold StableHlo.held
  rw [hb, SparseCore.bigSep_insert' m1, SparseCore.bigSep_insert' m2, bigSep_singleton, hx, hx', hy _ hA hB, hA, hB, wp_ret]
  iintro ⟨Hb, Ha, Hc, Hy⟩
  imodintro
  iapply Hk
  isplitl [Hb]; · iexact Hb
  isplitl [Ha]; · iexact Ha
  isplitl [Hc] <;> iassumption

end Host

/-! ## The TensorCore's call -/

/-- What the launch gives the TensorCore's call on device `d`: its staging cells' state and their tokens. -/
abbrev ghost (d : Dev nD) : sProp (MT nD τ sig (HIx 1) (Elt F) ℕ UU ℕ) :=
  iprop(Pipeline.cellsGhost (nD := nD) (Pipeline.pin (pcfgs (F := F)) adm) EP 0 d ∗ Pipeline.toksInit (nD := nD) (Pipeline.pin (pcfgs (F := F)) adm) EP 0 d)

set_option backward.isDefEq.respectTransparency.types false in
theorem wp_region [∀ e, Nonempty (Elt F e)] (r : Dev nD → TGiven F) (d : Dev nD) {Q : PUnit → sProp (MT nD τ sig (HIx 1) (Elt F) ℕ UU ℕ)} :
    iprop(boundary (d : Thread nD τ) ∗ three r d (r d).o ∗ owesLow d ∗ levAts (K (F := F)).L (K (F := F)).lev ∗ ghost d
        ∗ ((boundary (d : Thread nD τ) ∗ three r d (tcOut (r d).T (r d).y) ∗ owesLow d) -∗ Q ⟨⟩))
      ⊢ wp frame (wpE ((K (F := F)).defs (D (F := F))) 𝒱 (SparseCore.T d) none) Set.univ
          (Prog.lift (.customCall (SparseCore.inner (Pipeline.entry 0)) ())) Q := by
  have h := (Pipeline.RegionSeg.wp (pcfgs (F := F)) adm (dats r) none cellOf_inj EP defs₀ 𝒱₀ (K (F := F)).L (K (F := F)).lev (reg r) d none
    (fun _ h => nomatch h) (fun x => Prog.ret x) Q).trans ((K (F := F)).wp_liftProg (D (F := F)) 𝒱 (SparseCore.T d) Set.univ none _ Q)
  refine BIBase.Entails.trans ?_ h
  rw [show (reg r).pre d = iprop(three r d (r d).o ∗ owesLow d) from rfl, show (reg r).post d = iprop(three r d (tcOut (r d).T (r d).y) ∗ owesLow d) from rfl]
  iintro ⟨Hb, H3, HO, Hl, ⟨Hg, Ht⟩, Hk⟩
  isplitl [Hk]
  · iintro ⟨Hb, H3, HO⟩
    rw [wp_ret]
    imodintro
    iapply Hk
    isplitl [Hb]; · iexact Hb
    isplitl [H3] <;> iassumption
  isplitl [Hb]; · iexact Hb
  isplitl [H3 HO]; · isplitl [H3] <;> iassumption
  isplitl [Hl]; · iexact Hl
  isplitl [Hg] <;> iassumption

/-! ## The launch's ghost state -/

def u₀ : UU := (initOf (K (F := F)).hsCells (K (F := F)).hsToks,
  (initOf (Pipeline.cells (nD := nD) (Pipeline.pin (pcfgs (F := F)) adm) cellOf_inj) (Pipeline.launchToks (nD := nD) (Pipeline.pin (pcfgs (F := F)) adm) cellOf_inj), (1 : Counters)))

omit [FloatOps F] in
theorem emp_all {I : Type} (s : Finset I) : (bigSep s fun _ => iprop(emp)) = (iprop(emp) : sProp (MT nD τ sig (HIx 1) (Elt F) ℕ UU ℕ)) :=
  bigSep_emp_const s

omit [FloatOps F] in
theorem one_pipe (Φ : Fin 1 → Dev nD → sProp (MT nD τ sig (HIx 1) (Elt F) ℕ UU ℕ)) :
    (bigSep Finset.univ fun d : Dev nD => bigSep Finset.univ fun p : Fin 1 => Φ p d) = bigSep Finset.univ (Φ 0) :=
  bigSep_congr fun _ _ => bigSep_univ_of_subsingleton (0 : Fin 1)

set_option backward.isDefEq.respectTransparency.types false in
theorem hu₀ (g : Dev nD → Given F) : (ownU (u₀ (F := F)) : sProp (MT nD τ sig (HIx 1) (Elt F) ℕ UU ℕ))
    ⊢ |={Set.univ}=> iprop(BI.own (EH (initOf (K (F := F)).hsCells (K (F := F)).hsToks)) ∗ (bigSep Finset.univ fun d : Dev nD => ghost d)
        ∗ bigSep Finset.univ fun thr : Thread nD τ => bigSep Finset.univ fun q : Fin 1 => (P g).x q thr) := by
  unfold u₀
  iintro Hu
  ihave H := (ownU_pair (initOf (K (F := F)).hsCells (K (F := F)).hsToks) _) $$ Hu
  icases H with ⟨HH, HR⟩
  ihave H := (own_pair_emb _ _ _) $$ HR
  icases H with ⟨HP, -⟩
  imod (Pipeline.fund_ghost (Pipeline.pin (pcfgs (F := F)) adm) EP cellOf_inj) $$ HP with ⟨Hg, Ht⟩
  imodintro
  isplitl [HH]; · iexact HH
  isplitl [Hg Ht]
  · unfold ghost
    rw [bigSep_sep']
    isplitl [Hg]
    · iapply (Entails.of_eq (one_pipe (Pipeline.cellsGhost (nD := nD) (Pipeline.pin (pcfgs (F := F)) adm) EP))); iexact Hg
    · iapply (Entails.of_eq (one_pipe (Pipeline.toksInit (nD := nD) (Pipeline.pin (pcfgs (F := F)) adm) EP))); iexact Ht
  rw [show (bigSep Finset.univ fun thr : Thread nD τ => bigSep Finset.univ fun q : Fin 1 => (P g).x q thr) = bigSep Finset.univ fun _ => iprop(emp) from
    bigSep_congr fun _ _ => bigSep_univ_of_subsingleton (0 : Fin 1), emp_all]
  iempintro

/-! ## @main on the TensorCore -/

section Main

variable (m : (ℓ : Loc nD τ sig) → Buf (Elt F) ℓ) (ρ : Dev nD → PrngReg)

/-- The logits the other way round, as the two cores read them. -/
def logitsT (L : S16384x1000.Idx → Elt F .f32) : S1000x16384.Idx → Elt F .f32 := transpose S1000x16384 [1, 0] L transposes_S16384x1000_S1000x16384_1_0
/-- The labels as one row. -/
def labelsRow (y : S16384.Idx → Elt F .i32) : S1x16384.Idx → Elt F .i32 := shapeCast S1x16384 y shapeCasts_S16384_S1x16384
/-- The sum of the SparseCore's parts. -/
def sumP (p : S32x16.Idx → Elt F .f32) : S_.Idx → Elt F .f32 := Host.reduceAdd p (constant S_ .f32 0x00000000#32) reducesTo_S32x16_S_d0_1 h_S_
/-- The sum of the TensorCore's row. -/
def sumQ (q : S1x16384.Idx → Elt F .f32) : S_.Idx → Elt F .f32 := Host.reduceAdd q (constant S_ .f32 0x00000000#32) reducesTo_S1x16384_S_d0_1 h_S_

theorem otc_one (d : Dev nD) : (K (F := F)).Otc d 1 = 0 := by
  unfold SparseCore.Cfg.Otc
  exact Finset.sum_eq_zero fun q _ => if_neg (by omega)

/-- The result, from the two cores' parts. -/
def total (p : S32x16.Idx → Elt F .f32) (q : S1x16384.Idx → Elt F .f32) : S_.Idx → Elt F .f32 :=
  Host.divf (subf (sumP p) (sumQ q)) (constant S_ .f32 0x46800000#32)

def gv (d : Dev nD) : Given F where
  X := m (tcLoc d main_arg0)
  T := logitsT (m (tcLoc d main_arg1))
  y := m (tcLoc d main_arg2)
  C := m (tcLoc d main_arg3)
  o := m (tcLoc d main_v1)

def rv (d : Dev nD) : TGiven F where
  T := logitsT (m (tcLoc d main_arg1))
  y := labelsRow (m (tcLoc d main_arg2))
  o := m (tcLoc d main_v3)

def parts (d : Dev nD) : S32x16.Idx → Elt F .f32 := outAll (gv m d).X (gv m d).T (gv m d).y (gv m d).C
def row (d : Dev nD) : S1x16384.Idx → Elt F .f32 := tcOut (rv m d).T (rv m d).y

omit [FloatOps F] in
theorem unscopedBufs_eq (d : Dev nD) (W : (b : Ref sig .tc) → Buf (Elt F) ((d.tc : Thread nD τ).loc b)) :
    (unscopedBufs d W : sProp (MT nD τ sig (HIx 1) (Elt F) ℕ UU ℕ)) = iprop(pt d main_arg0 (W main_arg0) ∗ pt d main_arg1 (W main_arg1) ∗ pt d main_arg2 (W main_arg2)
      ∗ pt d main_arg3 (W main_arg3) ∗ pt d main_v0 (W main_v0) ∗ pt d main_v1 (W main_v1) ∗ pt d main_v2 (W main_v2) ∗ pt d main_v3 (W main_v3)
      ∗ pt d main_cst (W main_cst) ∗ pt d main_v4 (W main_v4) ∗ pt d main_cst_0 (W main_cst_0) ∗ pt d main_v5 (W main_v5) ∗ pt d main_v6 (W main_v6)
      ∗ pt d main_cst_1 (W main_cst_1) ∗ pt d main_v7 (W main_v7)) := by
  unfold unscopedBufs
  rw [show (Finset.univ.filter fun b : Ref sig .tc => ¬ b.isScoped) = {main_arg0, main_arg1, main_arg2, main_arg3, main_v0, main_v1, main_v2, main_v3,
      main_cst, main_v4, main_cst_0, main_v5, main_v6, main_cst_1, main_v7} by decide]
  iterate 14 rw [SparseCore.bigSep_insert' (by decide)]
  rw [bigSep_singleton]

abbrev FIN (d : Dev nD) : sProp (MT nD τ sig (HIx 1) (Elt F) ℕ UU ℕ) :=
  iprop(pt d main_arg0 (m (tcLoc d main_arg0)) ∗ pt d main_arg1 (m (tcLoc d main_arg1)) ∗ pt d main_arg2 (m (tcLoc d main_arg2))
    ∗ pt d main_arg3 (m (tcLoc d main_arg3)) ∗ pt d main_v7 (total (parts m d) (row m d)))

set_option maxRecDepth 16384 in
theorem hmain [∀ e, Nonempty (Elt F e)] (κ : GSem nD τ sig → ℕ) (d : Dev nD) :
    iprop((K (F := F)).ctx EH (P (gv m)) κ ∗ (K (F := F)).tcSt EH d 0 ∗ (K (F := F)).tcRes m ρ d ∗ ghost d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨H0, H1, H2, H3, Hv0, Hv1, Hv2, Hv3, Hc, Hv4, Hc0, Hv5, Hv6, Hc1, Hv7⟩, Hts, -⟩, HG⟩
  iapply (wp_two 𝒱 d none Set.univ (fun b => m (d, b)) (x := main_arg1) (y := main_v0) rfl rfl (by decide) (m (tcLoc d main_arg1)) (v := (gv m d).T)
    (fun W => StableHlo.unary_result_ne _ _ _ _ _ W (by decide)) (fun W h => (StableHlo.unary_result _ _ _ _ _ W).trans (congrArg logitsT h)) (m (tcLoc d main_v0)))
  isplitl [Hb]; · iexact Hb
  isplitl [H1]; · iexact H1
  isplitl [Hv0]; · iexact Hv0
  iintro ⟨Hb, H1, Hv0⟩
  iapply ((K (F := F)).wp_run (D (F := F)) 𝒱 (EH := EH) (P := P (gv m)) κ d 0) $$ [-]
  isplitr; · iexact Hctx
  isplitl [Hst]; · iexact Hst
  isplitl [H0 Hv0 H2 H3 Hv1]
  · rw [st0_eq]
    isplitr [Hv1]
    · isplitl [H0]; · iexact H0
      isplitl [Hv0]; · iexact Hv0
      isplitl [H2]; · iexact H2
      iexact H3
    iexact Hv1
  iintro ⟨Hst, Hdn⟩
  ihave Hdn' := (Entails.of_eq (dn0_eq (gv m) d)) $$ Hdn
  icases Hdn' with ⟨⟨H0, Hv0, H2, H3⟩, Hv1⟩
  iapply (wp_two 𝒱 d none Set.univ (fun b => m (d, b)) (x := main_arg2) (y := main_v2) rfl rfl (by decide) (m (tcLoc d main_arg2)) (v := (rv m d).y)
    (fun W => StableHlo.reshape_result_ne _ _ _ _ _ _ W (by decide)) (fun W h => (StableHlo.reshape_result _ _ _ _ _ _ W).trans (congrArg labelsRow h)) (m (tcLoc d main_v2)))
  isplitl [Hb]; · iexact Hb
  isplitl [H2]; · iexact H2
  isplitl [Hv2]; · iexact Hv2
  iintro ⟨Hb, H2, Hv2⟩
  unfold SparseCore.Cfg.tcSt
  rw [show (K (F := F)).Otc d ((0 : Fin 1).val + 1) = 0 from otc_one d, show (K (F := F)).Otc d 1 = 0 from otc_one d]
  icases Hst with ⟨HO, Hst⟩
  iapply (wp_region (rv m) d) $$ [-]
  isplitl [Hb]; · iexact Hb
  isplitl [Hv0 Hv2 Hv3]
  · unfold three
    isplitl [Hv0]; · iexact Hv0
    isplitl [Hv2]; · iexact Hv2
    iexact Hv3
  isplitl [HO]
  · unfold owesLow
    icases HO with ⟨%W, %hW, HO⟩
    iexists W
    isplitr; · ipureintro; exact hW
    iexact HO
  isplitr; · iapply ((K (F := F)).ctx_levAts (EH := EH) (P := P (gv m)) κ); iexact Hctx
  isplitl [HG]; · iexact HG
  unfold three owesLow
  iintro ⟨Hb, ⟨Hv0, Hv2, Hv3⟩, HO⟩
  iapply (wp_one 𝒱 d none Set.univ (fun b => m (d, b)) (y := main_cst) rfl (v := constant S_ .f32 0x00000000#32) rfl
    (fun W => StableHlo.nullary_result _ _ _ W) (m (tcLoc d main_cst)))
  isplitl [Hb]; · iexact Hb
  isplitl [Hc]; · iexact Hc
  iintro ⟨Hb, Hc⟩
  iapply (wp_three 𝒱 d none Set.univ (fun b => m (d, b)) (a := main_v1) (b := main_cst) (y := main_v4) rfl rfl (by decide) (by decide) (by decide) (parts m d) (constant S_ .f32 0x00000000#32) (v := sumP (parts m d))
    (fun W => StableHlo.binary_result_ne _ _ _ _ _ _ _ W (by decide)) (fun W => StableHlo.binary_result_ne _ _ _ _ _ _ _ W (by decide))
    (fun W h h' => (StableHlo.binary_result _ _ _ _ _ _ _ W).trans (congrArg₂ (fun x v => Host.reduceAdd x v reducesTo_S32x16_S_d0_1 h_S_) h h')) (m (tcLoc d main_v4)))
  isplitl [Hb]; · iexact Hb
  isplitl [Hv1]; · iexact Hv1
  isplitl [Hc]; · iexact Hc
  isplitl [Hv4]; · iexact Hv4
  iintro ⟨Hb, Hv1, Hc, Hv4⟩
  iapply (wp_one 𝒱 d none Set.univ (fun b => m (d, b)) (y := main_cst_0) rfl (v := constant S_ .f32 0x00000000#32) rfl
    (fun W => StableHlo.nullary_result _ _ _ W) (m (tcLoc d main_cst_0)))
  isplitl [Hb]; · iexact Hb
  isplitl [Hc0]; · iexact Hc0
  iintro ⟨Hb, Hc0⟩
  iapply (wp_three 𝒱 d none Set.univ (fun b => m (d, b)) (a := main_v3) (b := main_cst_0) (y := main_v5) rfl rfl (by decide) (by decide) (by decide) (row m d) (constant S_ .f32 0x00000000#32) (v := sumQ (row m d))
    (fun W => StableHlo.binary_result_ne _ _ _ _ _ _ _ W (by decide)) (fun W => StableHlo.binary_result_ne _ _ _ _ _ _ _ W (by decide))
    (fun W h h' => (StableHlo.binary_result _ _ _ _ _ _ _ W).trans (congrArg₂ (fun x v => Host.reduceAdd x v reducesTo_S1x16384_S_d0_1 h_S_) h h')) (m (tcLoc d main_v5)))
  isplitl [Hb]; · iexact Hb
  isplitl [Hv3]; · iexact Hv3
  isplitl [Hc0]; · iexact Hc0
  isplitl [Hv5]; · iexact Hv5
  iintro ⟨Hb, Hv3, Hc0, Hv5⟩
  iapply (wp_three 𝒱 d none Set.univ (fun b => m (d, b)) (a := main_v4) (b := main_v5) (y := main_v6) rfl rfl (by decide) (by decide) (by decide) (sumP (parts m d)) (sumQ (row m d)) (v := subf (sumP (parts m d)) (sumQ (row m d)))
    (fun W => StableHlo.binary_result_ne _ _ _ _ _ _ _ W (by decide)) (fun W => StableHlo.binary_result_ne _ _ _ _ _ _ _ W (by decide))
    (fun W h h' => (StableHlo.binary_result _ _ _ _ _ _ _ W).trans (congrArg₂ (fun x y : S_.Idx → Elt F .f32 => subf x y) h h')) (m (tcLoc d main_v6)))
  isplitl [Hb]; · iexact Hb
  isplitl [Hv4]; · iexact Hv4
  isplitl [Hv5]; · iexact Hv5
  isplitl [Hv6]; · iexact Hv6
  iintro ⟨Hb, Hv4, Hv5, Hv6⟩
  iapply (wp_one 𝒱 d none Set.univ (fun b => m (d, b)) (y := main_cst_1) rfl (v := constant S_ .f32 0x46800000#32) rfl
    (fun W => StableHlo.nullary_result _ _ _ W) (m (tcLoc d main_cst_1)))
  isplitl [Hb]; · iexact Hb
  isplitl [Hc1]; · iexact Hc1
  iintro ⟨Hb, Hc1⟩
  iapply (wp_three 𝒱 d none Set.univ (fun b => m (d, b)) (a := main_v6) (b := main_cst_1) (y := main_v7) rfl rfl (by decide) (by decide) (by decide) (subf (sumP (parts m d)) (sumQ (row m d))) (constant S_ .f32 0x46800000#32) (v := total (parts m d) (row m d))
    (fun W => StableHlo.binary_result_ne _ _ _ _ _ _ _ W (by decide)) (fun W => StableHlo.binary_result_ne _ _ _ _ _ _ _ W (by decide))
    (fun W h h' => (StableHlo.binary_result _ _ _ _ _ _ _ W).trans (congrArg₂ (fun x y : S_.Idx → Elt F .f32 => Host.divf x y) h h')) (m (tcLoc d main_v7)))
  isplitl [Hb]; · iexact Hb
  isplitl [Hv6]; · iexact Hv6
  isplitl [Hc1]; · iexact Hc1
  isplitl [Hv7]; · iexact Hv7
  iintro ⟨Hb, Hv6, Hc1, Hv7⟩
  imodintro
  isplitl [HO Hst]
  · isplitl [HO]
    · icases HO with ⟨%W, %hW, HO⟩
      iexists W
      isplitr; · ipureintro; exact hW
      iexact HO
    · iexact Hst
  isplitr [Hb Hts]
  · isplitl [H0]; · iexact H0
    isplitl [H1]; · iexact H1
    isplitl [H2]; · iexact H2
    isplitl [H3]; · iexact H3
    iexact Hv7
  isplitl [Hb] <;> iassumption

def fq (d : Dev nD) (s' : Phys nD τ sig (Elt F)) : Prop :=
  s'.mem.mem (tcLoc d main_arg0) = m (tcLoc d main_arg0) ∧ s'.mem.mem (tcLoc d main_arg1) = m (tcLoc d main_arg1)
    ∧ s'.mem.mem (tcLoc d main_arg2) = m (tcLoc d main_arg2) ∧ s'.mem.mem (tcLoc d main_arg3) = m (tcLoc d main_arg3)
    ∧ s'.mem.mem (tcLoc d main_v7) = total (parts m d) (row m d)

omit [FloatOps F] in
/-- A buffer held whole is read off the memory, and the memory kept. -/
theorem agree (d : Dev nD) (s' : Phys nD τ sig (Elt F)) (b : Ref sig .tc) (f : Buf (Elt F) (tcLoc d b)) :
    iprop(pt d b f ∗ SI s') ⊢ iprop(⌜s'.mem.mem (tcLoc d b) = f⌝ ∗ SI s') := by
  iintro ⟨Hp, HSI⟩
  ihave H := (persistent_entails_right (SI_pointsTo_agree (st := s') (ℓ := tcLoc d b) (I := Finset.univ) (q := fullShare) (f := f))) $$ [HSI Hp]
  · isplitl [HSI] <;> iassumption
  icases H with ⟨%h, HSI, -⟩
  isplitr; · ipureintro; exact funext fun i => h i (Finset.mem_univ i)
  iexact HSI

theorem hfin (d : Dev nD) (s' : Phys nD τ sig (Elt F)) : iprop(FIN m d ∗ SI s') ⊢ (⌜fq m d s'⌝ : sProp (MT nD τ sig (HIx 1) (Elt F) ℕ UU ℕ)) := by
  iintro ⟨⟨H0, H1, H2, H3, H7⟩, HSI⟩
  ihave H := (agree d s' main_arg0 _) $$ [HSI H0]
  · isplitl [H0] <;> iassumption
  icases H with ⟨%h0, HSI⟩
  ihave H := (agree d s' main_arg1 _) $$ [HSI H1]
  · isplitl [H1] <;> iassumption
  icases H with ⟨%h1, HSI⟩
  ihave H := (agree d s' main_arg2 _) $$ [HSI H2]
  · isplitl [H2] <;> iassumption
  icases H with ⟨%h2, HSI⟩
  ihave H := (agree d s' main_arg3 _) $$ [HSI H3]
  · isplitl [H3] <;> iassumption
  icases H with ⟨%h3, HSI⟩
  ihave H := (agree d s' main_v7 _) $$ [HSI H7]
  · isplitl [H7] <;> iassumption
  icases H with ⟨%h7, -⟩
  ipureintro; exact ⟨h0, h1, h2, h3, h7⟩

/-! ## The run -/

/-- What a run ends in: the arguments as they were, the result, and the semaphores at rest. -/
def QC : PUnit × MemSt nD τ sig (Elt F) → Prop := fun r =>
  (∀ d : Dev nD, r.2.mem (tcLoc d main_arg0) = m (tcLoc d main_arg0) ∧ r.2.mem (tcLoc d main_arg1) = m (tcLoc d main_arg1)
    ∧ r.2.mem (tcLoc d main_arg2) = m (tcLoc d main_arg2) ∧ r.2.mem (tcLoc d main_arg3) = m (tcLoc d main_arg3)
    ∧ r.2.mem (tcLoc d main_v7) = total (parts m d) (row m d)) ∧ r.2.sem = fun _ => 0

theorem run_main [∀ e, Nonempty (Elt F e)] (h : ∀ d, (gv m d).Ok) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (gv m)) (A := ∅) facts v₀
    (fun q hq => match q with | 0 => nomatch hq)
    (fun q _ => match q with | 0 => tileObl (gv m) h)
    (fun q _ => match q with | 0 => SparseCore.Cfg.VecSplit.of_plain (vecSplit (gv m)))
    m ρ main (fun d => ghost d) (FIN m) (u₀ (F := F)) (sep_elim_left.trans (hu₀ (gv m))) (hmain m ρ) (fq m) (hfin m) (QC m) (fun _ h hz => ⟨h, hz⟩)

end Main

end Cert.Proof.Center

end
-- ==== Proof.Ref.lean ====
/-
  The reference's run: the arguments as they were, and the result as one term over them.
-/
module

public import proofs.«01_k».proof.Defs
public import proofs.«01_k».proof.Proof.Gen.ReferenceIdeal
public import Idealize.ShloMosaic.Lib.Claim
public import Idealize.ShloMosaic.Lib.Pointwise

@[expose] public section

noncomputable section

namespace Cert.Proof.Center.Ref

open Idealize.ShloMosaic Idealize.SL.Sem Cert.ReferenceIdeal Cert.ReferenceIdeal.Gen

variable {F : FTy → Type} [FloatOps F]

/-- The labels as a column, a label below zero counted from the end. -/
def colIx (y : IVec S16384x1 32) : IVec S16384x1 32 :=
  select (cmpi .slt y (broadcastInDim S16384x1 ![] bcast_S_S16384x1 (constantI S_ 32 0#32)))
    (addi y (broadcastInDim S16384x1 ![] bcast_S_S16384x1 (constantI S_ 32 1000#32))) y
def boxIx (y : IVec S16384x1 32) : IVec S16384x1x1 32 := shapeCast S16384x1x1 (colIx y) shapeCasts_S16384x1_S16384x1x1
/-- Whether a label is a class number. -/
def boxOk (i : IVec S16384x1x1 32) : IVec S16384x1 1 :=
  Host.reduce IntOp.andi (andi (cmpi .sge i (broadcastInDim S16384x1x1 ![] bcast_S_S16384x1x1 (constantI S_ 32 0#32)))
    (cmpi .sle i (broadcastInDim S16384x1x1 ![0, 1, 2] bcast_S1x1x1_S16384x1x1_0_1_2 (broadcastInDim S1x1x1 ![2] bcast_S1_S1x1x1_2 (constantI S1 32 999#32)))))
    (constantI S_ 1 1#1) reducesTo_S16384x1x1_S16384x1_d2 h_S_
/-- The logit each row picks. -/
def pickCol (L : FVec F S16384x1000 .f32) (y : IVec S16384x1 32) : FVec F S16384x1 .f32 :=
  select (boxOk (boxIx y)) (Host.gather gather_S16384x1000_S16384x1x1_S16384x1_n_1_0_0_1_2_11 L (boxIx y))
    (broadcastInDim S16384x1 ![] bcast_S_S16384x1 (constant S_ .f32 0x7FC00000#32))
/-- Minus the picked logits' mean. -/
def nll (L : FVec F S16384x1000 .f32) (y : IVec S16384 32) : FVec F S_ .f32 :=
  Host.negf (Host.divf (Host.reduceAdd (shapeCast S16384 (pickCol L (broadcastInDim S16384x1 ![0] bcast_S16384_S16384x1_0 y)) shapeCasts_S16384x1_S16384)
    (constant S_ .f32 0x00000000#32) reducesTo_S16384_S_d0 h_S_) (constant S_ .f32 0x46800000#32))
def rowIx (y : IVec S16384 32) : IVec S16384x1 32 :=
  broadcastInDim S16384x1 ![0] bcast_S16384_S16384x1_0
    (select (cmpi .slt y (broadcastInDim S16384 ![] bcast_S_S16384 (constantI S_ 32 0#32)))
      (addi y (broadcastInDim S16384 ![] bcast_S_S16384 (constantI S_ 32 1000#32))) y)
def rowOk (i : IVec S16384x1 32) : IVec S16384 1 :=
  Host.reduce IntOp.andi (andi (cmpi .sge i (broadcastInDim S16384x1 ![] bcast_S_S16384x1 (constantI S_ 32 0#32)))
    (cmpi .sle i (broadcastInDim S16384x1 ![0, 1] bcast_S1x1_S16384x1_0_1 (broadcastInDim S1x1 ![1] bcast_S1_S1x1_1 (constantI S1 32 999#32)))))
    (constantI S_ 1 1#1) reducesTo_S16384x1_S16384_d1 h_S_
/-- The centre each row is measured from. -/
def centre (C : FVec F S1000x128 .f32) (i : IVec S16384x1 32) : FVec F S16384x128 .f32 :=
  select (broadcastInDim S16384x128 ![0] bcast_S16384_S16384x128_0 (rowOk i)) (Host.gather gather_S1000x128_S16384x1_S16384x128_1_0_n_n_0_1_1128 C i)
    (broadcastInDim S16384x128 ![] bcast_S_S16384x128 (constant S_ .f32 0x7FC00000#32))
/-- The sum of the squared distances. -/
def sqd (X : FVec F S16384x128 .f32) (y : IVec S16384 32) (C : FVec F S1000x128 .f32) : FVec F S_ .f32 :=
  Host.reduceAdd (mulf (subf X (centre C (rowIx y))) (subf X (centre C (rowIx y)))) (constant S_ .f32 0x00000000#32) reducesTo_S16384x128_S_d0_1 h_S_
/-- The loss. -/
def loss (X : FVec F S16384x128 .f32) (L : FVec F S16384x1000 .f32) (y : IVec S16384 32) (C : FVec F S1000x128 .f32) : FVec F S_ .f32 :=
  addf (nll L y) (mulf (constant S_ .f32 0x3F000000#32)
    (Host.divf (Host.divf (sqd X y C) (constant S_ .f32 0x40000000#32)) (constant S_ .f32 0x46800000#32)))

set_option maxRecDepth 65536 in
theorem run_ref (m : (ℓ : Loc nD τ sig) → Buf (Elt F) ℓ) (g : Dev nD → PrngReg) :
    θ_run (defs (F := F)) (onTc (τ := τ) (main (F := F))) ⟨m, fun _ => 0, g⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_v13) = loss (m ((c.tc : Thread nD τ).loc main_arg0)) (m ((c.tc : Thread nD τ).loc main_arg1))
          (m ((c.tc : Thread nD τ).loc main_arg2)) (m ((c.tc : Thread nD τ).loc main_arg3)) := by
  hlo_run
  simp only [StableHlo.TRef.ofBuf_toBuf]
  unfold loss nll pickCol boxOk boxIx colIx sqd centre rowOk rowIx
  rfl

end Cert.Proof.Center.Ref

end
-- ==== Proof.Frames.lean ====
/-
  The claims that the programs run: the precondition read, and the one run at each instance.
-/
module

public import proofs.«01_k».proof.Proof.Main
public import proofs.«01_k».proof.Proof.Gen.Kernel
public import proofs.«01_k».proof.Proof.Ref
public import proofs.«01_k».proof.Defs
public import Idealize.ShloMosaic.Lib.ReduceAll
public import Idealize.ShloMosaic.Lib.WordArith

@[expose] public section

noncomputable section

namespace Cert.Proof.Center

open Idealize.ShloMosaic Idealize.SL.Sem

instance preFacts : Cert.Pre_labels_in_range.Facts where
  bcast_S_S16384 := by decide
  reducesTo_S16384_S_d0 := by decide
  h_S_ := by decide

/-- A word between 0 and 1000, compared as a signed number, is below 1000. -/
theorem lt_of_bits (v : BitVec 32) (e : IntOp.andi (IntOp.cmpi .sge v 0#32) (IntOp.cmpi .slt v 1000#32) = 1#1) : v.toNat < 1000 := by
  simp only [IntOp.cmpi, WordArith.andi_ofBool, WordArith.ofBool_eq_one_iff, Bool.and_eq_true, BitVec.sle_eq_decide, BitVec.slt_eq_decide,
    decide_eq_true_eq, BitVec.toInt_eq_toNat_cond, BitVec.toNat_ofNat, Nat.reducePow, Nat.reduceMod] at e
  omega

theorem labels_of_pre {F : FTy → Type} [FloatOps F] (X L y C) (h : Cert.Pre_labels_in_range.fn (F := F) X L y C = fun _ => 1#1) (j) : (y j).toNat < 1000 := by
  dsimp only [Cert.Pre_labels_in_range.fn] at h
  haveI : Subsingleton Cert.Pre_labels_in_range.S_.Idx := ⟨fun a b => funext fun k => k.elim0⟩
  have e := Host.reduce_andi_all _ _ _ _ _ (congrFun h (fun k => k.elim0)) j
  simp only [andi, cmpi, broadcastInDim, constantI] at e
  exact lt_of_bits _ e

theorem frame_ideal : Cert.quiescent_KernelIdeal := fun m ρ h =>
  (θ_run Cert.KernelIdeal.defs _ _).mono (fun _ r => ⟨fun c => ⟨(r.1 c).1, (r.1 c).2.1, (r.1 c).2.2.1, (r.1 c).2.2.2.1⟩, r.2⟩)
    (run_main (F := Ideal) m ρ fun d j => labels_of_pre _ _ _ _ (h d) j)

set_option maxRecDepth 20000 in
set_option maxHeartbeats 4000000 in
/-- The tile's body is one text in both modules. -/
theorem sc_same (i a1 b1 a2 b2 a3 b3 a4 b4 a5 b5 a6 b6 a7 b7 a8 b8 a9 b9 a10 b10 a11 b11 a12 b12 a13 b13  c1 c2 c3 c4 c5 c6 c7 c8) : (Cert.Kernel.cc0__sc_body (F := Bits) i a1 b1 a2 b2 a3 b3  a4 b4 a5 b5 a6 b6 a7 b7 a8 b8 a9 b9 a10 b10 a11 b11 a12 b12 a13 b13  c1 c2 c3 c4 c5 c6 c7 c8) = (Cert.KernelIdeal.cc0__sc_body (F := Bits) i a1 b1 a2 b2 a3 b3  a4 b4 a5 b5 a6 b6 a7 b7 a8 b8 a9 b9 a10 b10 a11 b11 a12 b12 a13 b13  c1 c2 c3 c4 c5 c6 c7 c8) := by
  unfold Cert.Kernel.cc0__sc_body Cert.KernelIdeal.cc0__sc_body
  rfl

/-- So is the TensorCore's. -/
theorem tc_same (i a1 b1 a2 b2 a3 b3) : (Cert.Kernel.cc1__tc_body (F := Bits) i a1 b1 a2 b2 a3 b3) = (Cert.KernelIdeal.cc1__tc_body (F := Bits) i a1 b1 a2 b2 a3 b3) := by
  unfold Cert.Kernel.cc1__tc_body Cert.KernelIdeal.cc1__tc_body
  rfl

set_option maxRecDepth 20000 in
theorem defs₀_same : (Cert.Kernel.defs₀ (F := Bits)) = (Cert.KernelIdeal.defs₀ (F := Bits)) := by
  funext p ℓ a
  match p, ℓ, a with
  | .scVector c s, 0, a =>
    have h : c.val < 2 ∧ s.val < 16 := ⟨c.isLt, s.isLt⟩
    refine Eq.trans (dif_pos h) (Eq.trans ?_ (dif_pos h).symm)
    exact sc_same ..
  | .scVector c s, 1, a => rfl
  | .tc, 0, a => rfl
  | .tc, 1, (t, s) => exact tc_same (Cert.Kernel.grid1.coords t) _ (Cert.Kernel.Facts₀.hstage1_0 ((s 0).cast Cert.Kernel.Facts₀.nbuf1_0)) _ (Cert.Kernel.Facts₀.hstage1_1 ((s 1).cast Cert.Kernel.Facts₀.nbuf1_1)) _ (Cert.Kernel.Facts₀.hstage1_2 ((s 2).cast Cert.Kernel.Facts₀.nbuf1_2))
  | .scScalar _, 0, a => rfl
  | .scScalar _, 1, a => rfl

theorem defs_same : Cert.Kernel.defs (F := Bits) = Cert.KernelIdeal.defs (F := Bits) := by
  unfold Cert.Kernel.defs Cert.KernelIdeal.defs
  rw [defs₀_same]
  rfl

/-- The two modules differ in nothing but the name, so the one run serves both. -/
theorem frame_kernel : Cert.quiescent_Kernel := fun m ρ h => by
  rw [defs_same]
  exact (θ_run (Cert.KernelIdeal.defs (F := Bits)) _ _).mono (fun _ r => ⟨fun c => ⟨(r.1 c).1, (r.1 c).2.1, (r.1 c).2.2.1, (r.1 c).2.2.2.1⟩, r.2⟩)
    (run_main (F := Bits) m ρ fun d j => labels_of_pre _ _ _ _ (h d) j)

theorem frame_ref : Cert.quiescent_ReferenceIdeal := fun m ρ _ =>
  (θ_run Cert.ReferenceIdeal.defs _ _).mono (fun r h => ⟨fun c => ⟨(h c).1, (h c).2.1, (h c).2.2.1, (h c).2.2.2.1⟩, sem_eq_zero_of_no_sems (by decide) r.2⟩)
    (Ref.run_ref (F := Ideal) m ρ)

end Cert.Proof.Center

end
-- ==== Proof.Sums.lean ====
/-
  What a tile computes over the extended reals: a quarter of its rows' squared distances less the logits that they pick.
-/
module

public import proofs.«01_k».proof.Proof.Main
public import Idealize.ShloMosaic.Lib.Pointwise

@[expose] public section

noncomputable section

namespace Cert.Proof.Center

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Finset

/-! ## Sums over ranges -/

theorem sum_blocks {M : Type} [AddCommMonoid M] (f : ℕ → M) (m : ℕ) : ∀ n : ℕ, ∑ i ∈ range (n * m), f i = ∑ a ∈ range n, ∑ b ∈ range m, f (m * a + b)
  | 0 => by simp
  | n + 1 => by rw [Nat.succ_mul, sum_range_add, sum_blocks f m n, sum_range_succ, Nat.mul_comm n m]

variable (X : FVec Ideal S16384x128 .f32) (L : FVec Ideal S16384x1000 .f32) (y : S16384.Idx → BitVec 32) (C : FVec Ideal S1000x128 .f32)

/-- Row number `b`. -/
abbrev rowN (b : ℕ) : Fin 16384 := ⟨b % 16384, Nat.mod_lt _ (by decide)⟩
/-- Feature number `f`. -/
abbrev featN (f : ℕ) : Fin 128 := ⟨f % 128, Nat.mod_lt _ (by decide)⟩
/-- The class of row `b`. -/
abbrev cls (b : ℕ) : BitVec 32 := y (ix1 (rowN b))

/-- A row's distance from its centre in one feature. -/
def df (b f : ℕ) : EReal := (X (ix2 (rowN b) (featN f)) : EReal) - (C (ix2 (crow (cls y b)) (featN f)) : EReal)
/-- Its square. -/
def sq (b f : ℕ) : EReal := df X y C b f * df X y C b f
/-- The logit that a row picks. -/
def pk (b : ℕ) : EReal := L (ix2 (rowN b) (crow (cls y b)))
/-- The same, for the classes from 896 on. -/
def hi (b : ℕ) : EReal := if 896 ≤ (cls y b).toNat then pk L y b else 0
/-- The same, for the classes below 896. -/
def lo (b : ℕ) : EReal := if (cls y b).toNat < 896 then pk L y b else 0

/-! ## A tile's squares -/

theorem zero_word : (Scalar.ofBits (F := Ideal) .f32 0x00000000#32 : EReal) = 0 := by
  show Ideal.ofBits .f32 0x00000000#32 = 0
  simp [Ideal.ofBits, Ideal.ieee]

theorem cons1 {n0 : ℕ} (a : Fin n0) : (Fin.cons a finZeroElim : (⟨1, ![n0]⟩ : Shape).Idx) = ix1 a := by
  funext i; match i with | 0 => rfl
theorem cons2 {n0 n1 : ℕ} (a : Fin n0) (b : Fin n1) : (Fin.cons a (Fin.cons b finZeroElim) : (⟨2, ![n0, n1]⟩ : Shape).Idx) = ix2 a b := by
  funext i; match i with | 0 => rfl | 1 => rfl

theorem rowSq_apply (f g : FVec Ideal S64x128 .f32) (k : ℕ) (a : FVec Ideal S16 .f32) (x : S16.Idx) :
    ∀ n, (rowSq f g k a n x : EReal) = (a x : EReal) + ∑ j ∈ range n, ((dif f g k j x : EReal) * (dif f g k j x : EReal))
  | 0 => by simp [rowSq]
  | n + 1 => by
    rw [sum_range_succ, ← add_assoc, ← rowSq_apply f g k a x n]; rfl

theorem rowsSq_apply (f g : FVec Ideal S64x128 .f32) (a : FVec Ideal S16 .f32) (x : S16.Idx) :
    ∀ n, (rowsSq f g a n x : EReal) = (a x : EReal) + ∑ k ∈ range n, ∑ j ∈ range 8, ((dif f g k j x : EReal) * (dif f g k j x : EReal))
  | 0 => by simp [rowsSq]
  | n + 1 => by
    rw [sum_range_succ, ← add_assoc, ← rowsSq_apply f g a x n]; exact rowSq_apply f g n _ x 8

variable (G : grid0.Coords)

theorem dif_apply {r k : ℕ} (hr : r < 8) (hk : k < 64) (j : ℕ) (x : S16.Idx) :
    (dif (fBlk G X r) (gBlk C (yT G y) r) k j x : EReal) = df X y C (base G + (64 * r + k)) (16 * j + (x 0).val) := by
  have e : ∀ f : FVec Ideal S64x128 .f32, shapeCast S16 (blk f k j) shapeCasts_S1x16_S16 x = blk f k j (ix2 0 (x 0)) := fun f => by pointwise []
  show (shapeCast S16 (blk (fBlk G X r) k j) shapeCasts_S1x16_S16 x : EReal) - (shapeCast S16 (blk (gBlk C (yT G y) r) k j) shapeCasts_S1x16_S16 x : EReal) = _
  rw [e, e]
  have h1 : 64 * r + k % 64 = 64 * r + k := by omega
  have h2 : (64 * r + k) % 512 = 64 * r + k := by omega
  show (X (Fin.cons (brow G (64 * r + k % 64)) (Fin.cons ⟨(16 * j + (x 0).val) % 128, _⟩ finZeroElim)) : EReal)
    - (C (Fin.cons (crow (y (Fin.cons (brow G ((64 * r + k % 64) % 512)) finZeroElim))) (Fin.cons ⟨(16 * j + (x 0).val) % 128, _⟩ finZeroElim)) : EReal) = _
  rw [h1, h2]
  exact congrArg₂ (fun a b : EReal => a - b) (congrArg X (cons2 _ _)) (congrArg C ((cons2 _ _).trans (congrArg (fun z => ix2 (crow (y z)) _) (cons1 _))))

theorem sqs_apply (x : S16.Idx) : ∀ n, n ≤ 8 →
    (sqs G X C (yT G y) n x : EReal) = ∑ r ∈ range n, ∑ k ∈ range 64, ∑ j ∈ range 8, sq X y C (base G + (64 * r + k)) (16 * j + (x 0).val)
  | 0, _ => by rw [sum_range_zero]; exact zero_word
  | n + 1, h => by
    rw [sum_range_succ, ← sqs_apply x n (by omega)]
    refine (rowsSq_apply _ _ _ x 64).trans (congrArg (_ + ·) (sum_congr rfl fun k hk => sum_congr rfl fun j _ => ?_))
    rw [dif_apply X y C G (by omega) (mem_range.1 hk)]; rfl

/-! ## A tile's logits -/

theorem picks_apply (A : FVec Ideal S128x256 .f32) (Y : S512.Idx → BitVec 32) (g : ℕ) (a : FVec Ideal S16 .f32) (x : S16.Idx) :
    ∀ n, (picks A Y g a n x : EReal) = (a x : EReal) + ∑ i ∈ range n, (pick A (yg Y (g + i)) i x : EReal)
  | 0 => by simp [picks]
  | n + 1 => by
    rw [sum_range_succ, ← add_assoc, ← picks_apply A Y g a x n]; rfl

theorem pick_apply (hy : ∀ j, (y j).toNat < 1000) {h i : ℕ} (hh : h < 2) (hi' : i < 16) (x : S16.Idx) :
    (pick (F := Ideal) (lT G (logitsT (F := Ideal) L) h) (yg (yT G y) (16 * h + i)) i x : EReal) = hi L y (base G + (16 * (16 * h + i) + (x 0).val)) := by
  have hx : (x 0).val < 16 := (x 0).isLt
  have hm : (16 * (16 * h + i) + (x 0).val) % 512 = 16 * (16 * h + i) + (x 0).val := by omega
  have ey : yg (yT G y) (16 * h + i) x = cls y (base G + (16 * (16 * h + i) + (x 0).val)) := by
    show y (Fin.cons (brow G ((16 * (16 * h + i) + (x 0).val) % 512)) finZeroElim) = _
    rw [hm]
    exact congrArg y (by funext a; match a with | 0 => rfl)
  have hc : (cls y (base G + (16 * (16 * h + i) + (x 0).val))).toNat < 1000 := hy _
  have hok := ok_iff (yg (yT G y) (16 * h + i)) x
  have hI := BitVec.toInt_eq_toNat_of_lt (x := cls y (base G + (16 * (16 * h + i) + (x 0).val))) (by omega)
  rw [ey, hI] at hok
  unfold hi
  by_cases h9 : 896 ≤ (cls y (base G + (16 * (16 * h + i) + (x 0).val))).toNat
  · rw [if_pos h9]
    refine (if_pos (hok.2 (by omega))).trans ?_
    show (transpose S1000x16384 [1, 0] L transposes_S16384x1000_S1000x16384_1_0
      (Fin.cons ⟨(896 + (rix (yg (yT G y) (16 * h + i)) x).toNat) % 1000, _⟩ (Fin.cons (brow G (256 * h + (cix i x).toNat)) finZeroElim)) : EReal) = _
    have e1 : (rix (yg (yT G y) (16 * h + i)) x).toNat = (cls y (base G + (16 * (16 * h + i) + (x 0).val))).toNat - 896 := by
      rw [rix_of_ok (hok.2 (by omega)), ey, BitVec.toNat_sub]
      have h2 : (896#32 : BitVec 32).toNat = 896 := by decide
      rw [h2]; omega
    have e2 : 256 * h + (cix i x).toNat = 16 * (16 * h + i) + (x 0).val := by rw [cix_toNat]; omega
    have e3 : ∀ (c : Fin 1000) (b : Fin 16384), transpose S1000x16384 [1, 0] L transposes_S16384x1000_S1000x16384_1_0 (ix2 c b) = L (ix2 b c) := fun c b => by pointwise []
    refine (congrArg (transpose S1000x16384 [1, 0] L transposes_S16384x1000_S1000x16384_1_0) (cons2 _ _)).trans ((e3 _ _).trans ?_)
    refine congrArg L (congrArg₂ ix2 (Fin.ext ?_) (Fin.ext ?_))
    · show (base G + (256 * h + (cix i x).toNat)) % 16384 = _
      rw [e2]
    · show (896 + (rix (yg (yT G y) (16 * h + i)) x).toNat) % 1000 = (cls y (base G + (16 * (16 * h + i) + (x 0).val))).toNat % 1000
      rw [e1]; congr 1; omega
  · rw [if_neg h9]
    exact (if_neg (fun e => h9 (by have := hok.1 e; omega))).trans zero_word

theorem picked_apply (hy : ∀ j, (y j).toNat < 1000) (x : S16.Idx) :
    (picked (F := Ideal) (lT G (logitsT (F := Ideal) L) 0) (lT G (logitsT (F := Ideal) L) 1) (yT G y) x : EReal) = ∑ i ∈ range 32, hi L y (base G + (16 * i + (x 0).val)) := by
  refine (picks_apply _ _ 16 _ x 16).trans ?_
  rw [show (32 : ℕ) = 16 + 16 from rfl, sum_range_add]
  refine congrArg₂ (· + ·) ?_ (sum_congr rfl fun i h => ?_)
  · refine (picks_apply _ _ 0 _ x 16).trans ?_
    rw [show (zeros (F := Ideal) x : EReal) = 0 from zero_word, zero_add]
    refine sum_congr rfl fun i h => ?_
    have := pick_apply L y G hy (h := 0) (by decide) (mem_range.1 h) x
    simp only [Nat.mul_zero, Nat.zero_add] at this ⊢
    exact this
  · exact pick_apply L y G hy (h := 1) (by decide) (mem_range.1 h) x

theorem quarter_word : (Scalar.ofBits (F := Ideal) .f32 0x3E800000#32 : EReal) = ((1 / 4 : ℝ) : EReal) := by
  show Ideal.ofBits .f32 0x3E800000#32 = _
  simp [Ideal.ofBits, Ideal.ieee]
  rw [← EReal.coe_mul]; norm_num

/-- What a tile leaves in lane `x`. -/
theorem tileOut_apply (hy : ∀ j, (y j).toNat < 1000) (x : S16.Idx) : (tileOut G X (logitsT (F := Ideal) L) y C x : EReal)
    = ((1 / 4 : ℝ) : EReal) * (∑ r ∈ range 512, ∑ j ∈ range 8, sq X y C (base G + r) (16 * j + (x 0).val))
      - ∑ i ∈ range 32, hi L y (base G + (16 * i + (x 0).val)) := by
  rw [← picked_apply L y G hy x, ← quarter_word, show (512 : ℕ) = 8 * 64 from rfl, sum_blocks, ← sqs_apply X y C G x 8 le_rfl]
  rfl

end Cert.Proof.Center

end
-- ==== Proof.Totals.lean ====
/-
  The sums over the extended reals.
-/
module

public import proofs.«01_k».proof.Proof.Sums

@[expose] public section

noncomputable section

namespace Cert.Proof.Center

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Finset

variable (X : FVec Ideal S16384x128 .f32) (L : FVec Ideal S16384x1000 .f32) (y : S16384.Idx → BitVec 32) (C : FVec Ideal S1000x128 .f32)

/-! ## The TensorCore's row -/

theorem select_eq (a b : BitVec 32) (p q : EReal) : Scalar.select (IntOp.cmpi .eq a b) p q = if a = b then p else q := by
  show (if BitVec.ofBool (a == b) = 1#1 then p else q) = _
  by_cases h : a = b
  · rw [if_pos h]; exact if_pos ((ofBool_eq_one _).2 (beq_iff_eq.2 h))
  · rw [if_neg h]; exact if_neg fun e => h (beq_iff_eq.1 ((ofBool_eq_one _).1 e))

theorem k1_apply (v : S1x2048.Idx → BitVec 32) (l : FVec Ideal S896x2048 .f32) (x : S1x2048.Idx) :
    (k1_pay1 (F := Ideal) v l x : EReal) = ∑ k : Fin 896, if BitVec.ofNat 32 k.val = v (ix2 0 (x 1)) then (l (ix2 k (x 1)) : EReal) else 0 := by
  pointwise [k1_pay1]
  exact sum_congr rfl fun k _ => select_eq _ _ _ _

/-- A sum with one class in it. -/
theorem sum_class (w : BitVec 32) (g : Fin 896 → EReal) (r : EReal) (h : ∀ k : Fin 896, k.val = w.toNat → g k = r) :
    (∑ k : Fin 896, if BitVec.ofNat 32 k.val = w then g k else 0) = if w.toNat < 896 then r else 0 := by
  have e : ∀ k : Fin 896, BitVec.ofNat 32 k.val = w ↔ k.val = w.toNat := fun k => by
    have := k.isLt
    rw [← BitVec.toNat_inj, BitVec.toNat_ofNat, Nat.mod_eq_of_lt (by omega)]
  simp only [e]
  by_cases hw : w.toNat < 896
  · rw [if_pos hw, sum_eq_single ⟨w.toNat, hw⟩ (fun k _ hk => if_neg fun e => hk (Fin.ext e)) (fun h => absurd (mem_univ _) h), if_pos rfl]
    exact h _ rfl
  · rw [if_neg hw]
    exact sum_eq_zero fun k _ => if_neg fun e => hw (by have := k.isLt; omega)

theorem row_apply (i : S1x16384.Idx) :
    (tcOut (F := Ideal) (logitsT (F := Ideal) L) (labelsRow (F := Ideal) y) i : EReal) = lo L y (i 1).val := by
  have hi : (i 1).val < 16384 := (i 1).isLt
  have e1 : ∀ b : Fin 16384, labelsRow (F := Ideal) y (ix2 0 b) = y (ix1 b) := fun b => by unfold labelsRow; pointwise []
  have e3 : ∀ (c : Fin 1000) (b : Fin 16384), logitsT (F := Ideal) L (ix2 c b) = L (ix2 b c) := fun c b => by unfold logitsT; pointwise []
  have ec : (col ((i 1).val / 2048) ((i 1).val % 2048)) = rowN (i 1).val := Fin.ext (by
    show ((i 1).val / 2048 * 2048 + (i 1).val % 2048) % 16384 = (i 1).val % 16384
    omega)
  refine (k1_apply _ _ _).trans ?_
  have ey : yblk (F := Ideal) (labelsRow (F := Ideal) y) ((i 1).val / 2048) (ix2 0 ⟨(i 1).val % 2048, Nat.mod_lt _ (by decide)⟩) = cls y (i 1).val := by
    refine Eq.trans (congrArg (labelsRow (F := Ideal) y) (a₂ := ix2 0 (rowN (i 1).val)) ?_) (e1 _)
    funext a; match a with | 0 => rfl | 1 => exact ec
  refine Eq.trans ?_ (sum_class (cls y (i 1).val) (fun k => lblk (F := Ideal) (logitsT (F := Ideal) L) ((i 1).val / 2048) (ix2 k ⟨(i 1).val % 2048, Nat.mod_lt _ (by decide)⟩)) (pk L y (i 1).val) fun k hk => ?_)
  · rw [← ey]
  · have hk' := k.isLt
    refine Eq.trans (congrArg (logitsT (F := Ideal) L) (a₂ := ix2 (crow (cls y (i 1).val)) (rowN (i 1).val)) ?_) (e3 _ _)
    funext a
    match a with
    | 0 => exact Fin.ext (by show k.val = (cls y (i 1).val).toNat % 1000; omega)
    | 1 => exact ec

/-! ## The sums -/

theorem sumQ_apply (q : S1x16384.Idx → Elt Ideal .f32) (j : S_.Idx) (f : ℕ → EReal) (h : ∀ i, (q i : EReal) = f (i 1).val) :
    (sumQ (F := Ideal) q j : EReal) = ∑ b ∈ range 16384, f b := by
  pointwise [sumQ]
  simp only [h]
  rw [Fin.sum_univ_one]
  exact Fin.sum_univ_eq_sum_range f 16384

theorem sumP_apply (p : S32x16.Idx → Elt Ideal .f32) (j : S_.Idx) (f : ℕ → ℕ → EReal) (h : ∀ i, (p i : EReal) = f (i 0).val (i 1).val) :
    (sumP (F := Ideal) p j : EReal) = ∑ w ∈ range 32, ∑ l ∈ range 16, f w l := by
  pointwise [sumP]
  simp only [h]
  rw [← Fin.sum_univ_eq_sum_range (fun w => ∑ l ∈ range 16, f w l) 32]
  exact sum_congr rfl fun w _ => Fin.sum_univ_eq_sum_range (f w.val) 16

theorem total_apply (p : S32x16.Idx → Elt Ideal .f32) (q : S1x16384.Idx → Elt Ideal .f32) (j : S_.Idx) :
    (total (F := Ideal) p q j : EReal) = ((sumP (F := Ideal) p j : EReal) - (sumQ (F := Ideal) q j : EReal)) * ((1 / 16384 : ℝ) : EReal) := by
  have e : Ideal.ofBits .f32 0x46800000#32 = ((16384 : ℝ) : EReal) := by
    simp [Ideal.ofBits, Ideal.ieee]
    rw [← EReal.coe_mul]; norm_num
  show Ideal.div _ (Ideal.ofBits .f32 0x46800000#32) = _
  rw [e, Ideal.div_coe (by norm_num)]
  rfl

/-! ## The tiles' sums together -/

theorem base_tile (w : ℕ) (h : w < 32) : base (tileOf ⟨w, h⟩) = 512 * w := by
  show 1024 * (w / 2) + 512 * (w % 2) = 512 * w
  omega

/-- All the squared distances. -/
def sqAll : EReal := ∑ b ∈ range 16384, ∑ f ∈ range 128, sq X y C b f
/-- All the logits picked from the classes from 896 on. -/
def hiAll : EReal := ∑ b ∈ range 16384, hi L y b
/-- All the logits picked from the classes below 896. -/
def loAll : EReal := ∑ b ∈ range 16384, lo L y b

theorem sqAll_eq : sqAll X y C = ∑ w ∈ range 32, ∑ l ∈ range 16, ∑ r ∈ range 512, ∑ j ∈ range 8, sq X y C (512 * w + r) (16 * j + l) := by
  unfold sqAll
  rw [show (16384 : ℕ) = 32 * 512 from rfl, sum_blocks]
  refine sum_congr rfl fun w _ => ?_
  rw [sum_comm (s := range 16)]
  refine sum_congr rfl fun r _ => ?_
  rw [show (128 : ℕ) = 8 * 16 from rfl, sum_blocks, sum_comm]

theorem hiAll_eq : hiAll L y = ∑ w ∈ range 32, ∑ l ∈ range 16, ∑ i ∈ range 32, hi L y (512 * w + (16 * i + l)) := by
  unfold hiAll
  rw [show (16384 : ℕ) = 32 * 512 from rfl, sum_blocks]
  refine sum_congr rfl fun w _ => ?_
  rw [sum_comm (s := range 16), show (512 : ℕ) = 32 * 16 from rfl, sum_blocks]

theorem mul_self_nonneg' (a : EReal) : 0 ≤ a * a := by
  induction a with
  | bot => simp
  | coe r => rw [← EReal.coe_mul]; exact_mod_cast mul_self_nonneg r
  | top => simp

/-- A sum of reals is a real. -/
theorem sum_real (f : ℕ → EReal) (n : ℕ) (h : ∀ i, ∃ r : ℝ, f i = r) : ∃ r : ℝ, ∑ i ∈ range n, f i = r := by
  choose g hg using h
  exact ⟨∑ i ∈ range n, g i, by simp only [hg]; induction n with
    | zero => simp
    | succ n ih => rw [sum_range_succ, sum_range_succ, ih, EReal.coe_add]⟩

theorem sum_parts (c : ℝ) (A B : ℕ → EReal) (hA : ∀ i, 0 ≤ A i) (hB : ∀ i, ∃ r : ℝ, B i = r) :
    ∀ n, ∑ i ∈ range n, ((c : EReal) * A i - B i) = (c : EReal) * ∑ i ∈ range n, A i - ∑ i ∈ range n, B i
  | 0 => by simp
  | n + 1 => by
    obtain ⟨b, hb⟩ := hB n
    obtain ⟨s, hs⟩ := sum_real B n hB
    rw [sum_range_succ, sum_parts c A B hA hB n, sum_range_succ A, sum_range_succ B, hb, hs,
      EReal.left_distrib_of_nonneg (sum_nonneg fun i _ => hA i) (hA n), sub_eq_add_neg, sub_eq_add_neg, sub_eq_add_neg, ← EReal.coe_add,
      ← EReal.coe_neg, ← EReal.coe_neg, ← EReal.coe_neg, neg_add, EReal.coe_add]
    exact add_add_add_comm _ _ _ _

theorem pk_real (hL : ∀ i, ∃ r : ℝ, (L i : EReal) = r) (b : ℕ) : ∃ r : ℝ, pk L y b = r := hL _

theorem hi_real (hL : ∀ i, ∃ r : ℝ, (L i : EReal) = r) (b : ℕ) : ∃ r : ℝ, hi L y b = r := by
  unfold hi; split
  · exact pk_real L y hL b
  · exact ⟨0, rfl⟩

theorem lo_real (hL : ∀ i, ∃ r : ℝ, (L i : EReal) = r) (b : ℕ) : ∃ r : ℝ, lo L y b = r := by
  unfold lo; split
  · exact pk_real L y hL b
  · exact ⟨0, rfl⟩

/-- The kernel's result. -/
theorem kernel_value (hy : ∀ j, (y j).toNat < 1000) (hL : ∀ i, ∃ r : ℝ, (L i : EReal) = r) (j : S_.Idx) :
    (total (F := Ideal) (outAll X (logitsT (F := Ideal) L) y C) (tcOut (F := Ideal) (logitsT (F := Ideal) L) (labelsRow (F := Ideal) y)) j : EReal)
      = (((1 / 4 : ℝ) : EReal) * sqAll X y C - hiAll L y - loAll L y) * ((1 / 16384 : ℝ) : EReal) := by
  rw [total_apply, sumQ_apply _ j (lo L y) (row_apply L y),
    sumP_apply _ j (fun w l => ((1 / 4 : ℝ) : EReal) * (∑ r ∈ range 512, ∑ j ∈ range 8, sq X y C (512 * w + r) (16 * j + l))
      - ∑ i ∈ range 32, hi L y (512 * w + (16 * i + l))) fun i => ?_]
  · have hs : ∀ w l, 0 ≤ ∑ r ∈ range 512, ∑ j ∈ range 8, sq X y C (512 * w + r) (16 * j + l) := fun w l =>
      sum_nonneg fun _ _ => sum_nonneg fun _ _ => mul_self_nonneg' _
    have hh : ∀ w l, ∃ r : ℝ, ∑ i ∈ range 32, hi L y (512 * w + (16 * i + l)) = r := fun w l => sum_real _ _ fun i => hi_real L y hL _
    rw [sqAll_eq, hiAll_eq, ← sum_parts _ _ _ (fun w => sum_nonneg fun l _ => hs w l) fun w => sum_real _ _ fun l => hh w l]
    simp only [← sum_parts _ _ _ (hs _) (hh _)]
    rfl
  · have hw : (i 0).val < 32 := (i 0).isLt
    have := tileOut_apply X L y C (tileOf (i 0)) hy (Fin.cons (i 1) finZeroElim)
    rw [show base (tileOf (i 0)) = 512 * (i 0).val from base_tile _ hw] at this
    exact this

end Cert.Proof.Center

end
-- ==== Proof.RefValue.lean ====
/-
  The reference's result over the extended reals.
-/
module

public import proofs.«01_k».proof.Proof.Ref
public import proofs.«01_k».proof.Proof.Totals
public import Idealize.ShloMosaic.Lib.ReduceAll
public import Idealize.ShloMosaic.Lib.WordArith

@[expose] public section

noncomputable section

namespace Cert.Proof.Center.Ref

open Idealize.ShloMosaic Idealize.SL.Sem Cert.ReferenceIdeal Cert.ReferenceIdeal.Gen
open Finset

/-! ## Labels in range -/

theorem norm_ix (w : BitVec 32) (h : w.toNat < 1000) : Scalar.select (IntOp.cmpi .slt w 0#32) (IntOp.addi w 1000#32) w = w := by
  refine if_neg fun e => ?_
  have e' := (ofBool_eq_one _).1 e
  rw [BitVec.slt_iff_toInt_lt, BitVec.toInt_eq_toNat_of_lt (x := w) (by omega)] at e'
  have h0 : (0#32 : BitVec 32).toInt = 0 := by decide
  omega

theorem sge_one (w : BitVec 32) (h : w.toNat < 1000) : IntOp.cmpi .sge w 0#32 = 1#1 := by
  refine (ofBool_eq_one _).2 ?_
  rw [BitVec.sle_iff_toInt_le, BitVec.toInt_eq_toNat_of_lt (x := w) (by omega)]
  have h0 : (0#32 : BitVec 32).toInt = 0 := by decide
  omega

theorem sle_one (w : BitVec 32) (h : w.toNat < 1000) : IntOp.cmpi .sle w 999#32 = 1#1 := by
  refine (ofBool_eq_one _).2 ?_
  rw [BitVec.sle_iff_toInt_le, BitVec.toInt_eq_toNat_of_lt (x := w) (by omega)]
  have h0 : (999#32 : BitVec 32).toInt = 999 := by decide
  omega

/-- A label in range, clamped, is itself. -/
theorem clamp (w : BitVec 32) (h : w.toNat < 1000) : min w.toInt.toNat 999 = w.toNat % 1000 := by
  rw [BitVec.toInt_eq_toNat_of_lt (x := w) (by omega), Int.toNat_natCast]
  omega

/-! ## The two lookups -/

section Lookups
variable {α : Type}

theorem logit_at (x : S16384x1000.Idx → α) (ix : IVec S16384x1x1 32) (b : Fin 16384) (c : Fin 1000) (h : min (ix (ix3 b 0 0)).toInt.toNat 999 = c.val) :
    Host.gather gather_S16384x1000_S16384x1x1_S16384x1_n_1_0_0_1_2_11 x ix (ix2 b 0) = x (ix2 b c) := by
  unfold Host.gather
  refine congrArg x (funext fun a => Fin.ext ?_)
  let D := gather_S16384x1000_S16384x1x1_S16384x1_n_1_0_0_1_2_11
  show D.start (ix2 b 0) ix a + D.batchCoord (ix2 b 0) a + D.offCoord (ix2 b 0) a = _
  match a with
  | 0 =>
    rw [GatherDims.start_batching _ _ _ _ (List.mem_singleton.mpr rfl),
      GatherDims.offCoord_eq_zero _ _ _ fun k => ((GatherDims.mem_sKept _ _).mp k).2 (List.mem_singleton.mpr rfl), Nat.zero_add, Nat.add_zero]
    unfold GatherDims.batchCoord
    rw [dif_pos (show (0 : Fin 2) ∈ D.operandBatchingDims from List.mem_singleton.mpr rfl)]
    rfl
  | 1 =>
    rw [GatherDims.batchCoord_eq_zero _ _ _ (show (1 : Fin 2) ∉ ([0] : List (Fin 2)) by decide),
      GatherDims.offCoord_eq_zero _ _ _ fun k => ((GatherDims.mem_sKept _ _).mp k).1 (List.mem_singleton.mpr rfl), Nat.add_zero]
    unfold GatherDims.start
    rw [dif_pos (show (1 : Fin 2) ∈ D.startIndexMap from List.mem_singleton.mpr rfl)]
    refine Eq.trans ?_ h
    refine congrArg (fun z => min (ix z).toInt.toNat 999) (funext fun e => Fin.ext ?_)
    match e with | 0 => rfl | 1 => rfl | 2 => rfl

theorem row_at (x : S1000x128.Idx → α) (ix : IVec S16384x1 32) (b : Fin 16384) (f : Fin 128) (c : Fin 1000) (h : min (ix (ix2 b 0)).toInt.toNat 999 = c.val) :
    Host.gather gather_S1000x128_S16384x1_S16384x128_1_0_n_n_0_1_1128 x ix (ix2 b f) = x (ix2 c f) := by
  unfold Host.gather
  refine congrArg x (funext fun a => Fin.ext ?_)
  let D := gather_S1000x128_S16384x1_S16384x128_1_0_n_n_0_1_1128
  show D.start (ix2 b f) ix a + D.batchCoord (ix2 b f) a + D.offCoord (ix2 b f) a = _
  match a with
  | 0 =>
    rw [GatherDims.batchCoord_eq_zero _ _ _ List.not_mem_nil,
      GatherDims.offCoord_eq_zero _ _ _ fun k => ((GatherDims.mem_sKept _ _).mp k).1 (List.mem_singleton.mpr rfl), Nat.add_zero]
    unfold GatherDims.start
    rw [dif_pos (show (0 : Fin 2) ∈ D.startIndexMap from List.mem_singleton.mpr rfl)]
    refine Eq.trans ?_ h
    refine congrArg (fun z => min (ix z).toInt.toNat 999) (funext fun e => Fin.ext ?_)
    match e with | 0 => rfl | 1 => rfl
  | 1 =>
    rw [GatherDims.batchCoord_eq_zero _ _ _ List.not_mem_nil, Nat.add_zero]
    unfold GatherDims.start
    rw [dif_neg (show (1 : Fin 2) ∉ D.startIndexMap from (by decide : (1 : Fin 2) ∉ ([0] : List (Fin 2)))), Nat.zero_add]
    rfl

end Lookups

variable (X : FVec Ideal S16384x128 .f32) (L : FVec Ideal S16384x1000 .f32) (y : IVec S16384 32) (C : FVec Ideal S1000x128 .f32)

theorem fold_ones {n : ℕ} (f : Fin n → BitVec 1) (h : ∀ k, f k = 1#1) : fold IntOp.andi (1#1) f univ = 1#1 := by
  rw [show f = fun _ => 1#1 from funext h]
  induction (univ : Finset (Fin n)) using Finset.induction_on with
  | empty => rfl
  | insert a s ha ih => rw [fold_insert ha, ih]; rfl

theorem select_pos {s : Shape} {β : Type} (c : IVec s 1) (a b : s.Idx → β) (i : s.Idx) (h : c i = 1#1) : select c a b i = a i := if_pos h

theorem pickCol_apply (hy : ∀ j, (y j).toNat < 1000) (b : Fin 16384) :
    (pickCol (F := Ideal) L (broadcastInDim S16384x1 ![0] bcast_S16384_S16384x1_0 y) (ix2 b 0) : EReal) = pk L y b.val := by
  have hb : rowN b.val = b := Fin.ext (Nat.mod_eq_of_lt b.isLt)
  have e : boxOk (boxIx (broadcastInDim S16384x1 ![0] bcast_S16384_S16384x1_0 y)) (ix2 b 0) = 1#1 := by
    pointwise [boxOk, boxIx, colIx]
    exact fold_ones _ fun _ => by rw [norm_ix _ (hy _), sge_one _ (hy _), sle_one _ (hy _)]; rfl
  have e' : boxIx (broadcastInDim S16384x1 ![0] bcast_S16384_S16384x1_0 y) (ix3 b 0 0) = y (ix1 b) := by
    pointwise [boxIx, colIx]
    exact norm_ix _ (hy _)
  unfold pickCol
  refine (select_pos _ _ _ _ e).trans ((logit_at L _ b (crow (y (ix1 b))) ?_).trans ?_)
  · rw [e']; exact clamp _ (hy _)
  · unfold pk cls; rw [hb]

theorem centre_apply (hy : ∀ j, (y j).toNat < 1000) (b : Fin 16384) (f : Fin 128) :
    (centre (F := Ideal) C (rowIx y) (ix2 b f) : EReal) = C (ix2 (crow (y (ix1 b))) f) := by
  have e : broadcastInDim S16384x128 ![0] bcast_S16384_S16384x128_0 (rowOk (rowIx y)) (ix2 b f) = 1#1 := by
    pointwise [rowOk, rowIx]
    exact fold_ones _ fun _ => by rw [norm_ix _ (hy _), sge_one _ (hy _), sle_one _ (hy _)]; rfl
  have e' : rowIx y (ix2 b 0) = y (ix1 b) := by
    pointwise [rowIx]
    exact norm_ix _ (hy _)
  unfold centre
  refine (select_pos _ _ _ _ e).trans (row_at C _ b f (crow (y (ix1 b))) ?_)
  rw [e']; exact clamp _ (hy _)

theorem word16384 : Ideal.ofBits .f32 0x46800000#32 = ((16384 : ℝ) : EReal) := by
  simp [Ideal.ofBits, Ideal.ieee]
  rw [← EReal.coe_mul]; norm_num

theorem word2 : Ideal.ofBits .f32 0x40000000#32 = ((2 : ℝ) : EReal) := by
  simp [Ideal.ofBits, Ideal.ieee]
  rw [← EReal.coe_mul]; norm_num

theorem wordHalf : Ideal.ofBits .f32 0x3F000000#32 = ((1 / 2 : ℝ) : EReal) := by
  simp [Ideal.ofBits, Ideal.ieee]
  rw [← EReal.coe_mul]; norm_num

theorem loss_value (hy : ∀ j, (y j).toNat < 1000) (j : S_.Idx) :
    (loss (F := Ideal) X L y C j : EReal) = -((∑ b ∈ range 16384, pk L y b) * ((1 / 16384 : ℝ) : EReal))
      + ((1 / 2 : ℝ) : EReal) * ((sqAll X y C * ((1 / 2 : ℝ) : EReal)) * ((1 / 16384 : ℝ) : EReal)) := by
  have e1 : (∑ b : Fin 16384, (pickCol (F := Ideal) L (broadcastInDim S16384x1 ![0] bcast_S16384_S16384x1_0 y) (ix2 b 0) : EReal)) = ∑ b ∈ range 16384, pk L y b := by
    rw [← Fin.sum_univ_eq_sum_range]
    exact sum_congr rfl fun b _ => pickCol_apply L y hy b
  have e2 : (∑ b : Fin 16384, ∑ f : Fin 128, ((X (ix2 b f) : EReal) - (centre (F := Ideal) C (rowIx y) (ix2 b f) : EReal))
      * ((X (ix2 b f) : EReal) - (centre (F := Ideal) C (rowIx y) (ix2 b f) : EReal))) = sqAll X y C := by
    unfold sqAll
    rw [← Fin.sum_univ_eq_sum_range (fun b => ∑ f ∈ range 128, sq X y C b f)]
    refine sum_congr rfl fun b _ => ?_
    rw [← Fin.sum_univ_eq_sum_range (fun f => sq X y C b.val f)]
    refine sum_congr rfl fun f _ => ?_
    have hb : rowN b.val = b := Fin.ext (Nat.mod_eq_of_lt b.isLt)
    have hf : featN f.val = f := Fin.ext (Nat.mod_eq_of_lt f.isLt)
    rw [centre_apply y C hy]
    unfold sq df cls
    rw [hb, hf]
  pointwise [loss, nll, sqd]
  rw [e1, e2, word16384, word2, wordHalf, Ideal.div_coe (by norm_num), Ideal.div_coe (by norm_num), Ideal.div_coe (by norm_num)]

end Cert.Proof.Center.Ref

end
-- ==== Proof.Values.lean ====
/-
  The value claim: over the extended reals, with labels in range and finite logits, the kernel's result is the reference's.
-/
module

public import proofs.«01_k».proof.Proof.Frames
public import proofs.«01_k».proof.Proof.RefValue

@[expose] public section

noncomputable section

namespace Cert.Proof.Center

open Idealize.ShloMosaic Idealize.SL.Sem
open Finset

/-! ## The two results are one -/

variable (X : FVec Ideal Cert.KernelIdeal.S16384x128 .f32) (L : FVec Ideal Cert.KernelIdeal.S16384x1000 .f32) (y : Cert.KernelIdeal.S16384.Idx → BitVec 32) (C : FVec Ideal Cert.KernelIdeal.S1000x128 .f32)

theorem pk_split (b : ℕ) : pk L y b = hi L y b + lo L y b := by
  unfold hi lo
  by_cases h : 896 ≤ (cls y b).toNat
  · rw [if_pos h, if_neg (by omega), add_zero]
  · rw [if_neg h, if_pos (by omega), zero_add]

theorem sq_top_or_real : sqAll X y C = ⊤ ∨ ∃ r : ℝ, sqAll X y C = r := by
  have h : 0 ≤ sqAll X y C := sum_nonneg fun _ _ => sum_nonneg fun _ _ => mul_self_nonneg' _
  revert h
  generalize sqAll X y C = s
  intro h
  induction s with
  | bot => exact absurd h (by simp)
  | coe r => exact .inr ⟨r, rfl⟩
  | top => exact .inl rfl

theorem results_eq (hL : ∀ i, ∃ r : ℝ, (L i : EReal) = r) :
    (((1 / 4 : ℝ) : EReal) * sqAll X y C - hiAll L y - loAll L y) * ((1 / 16384 : ℝ) : EReal)
      = -((∑ b ∈ range 16384, pk L y b) * ((1 / 16384 : ℝ) : EReal)) + ((1 / 2 : ℝ) : EReal) * ((sqAll X y C * ((1 / 2 : ℝ) : EReal)) * ((1 / 16384 : ℝ) : EReal)) := by
  have e : ∑ b ∈ range 16384, pk L y b = hiAll L y + loAll L y := by
    unfold hiAll loAll
    rw [← sum_add_distrib]
    exact sum_congr rfl fun b _ => pk_split L y b
  obtain ⟨h, hh⟩ := sum_real (hi L y) 16384 (hi_real L y hL)
  obtain ⟨l, hl⟩ := sum_real (lo L y) 16384 (lo_real L y hL)
  rw [e, show hiAll L y = h from hh, show loAll L y = l from hl]
  rcases sq_top_or_real X y C with hs | ⟨s, hs⟩
  · rw [hs, EReal.coe_mul_top_of_pos (by norm_num), EReal.top_sub_coe, EReal.top_sub_coe, EReal.top_mul_coe_of_pos (by norm_num), EReal.top_mul_coe_of_pos (by norm_num),
      EReal.top_mul_coe_of_pos (by norm_num), EReal.coe_mul_top_of_pos (by norm_num), ← EReal.coe_add, ← EReal.coe_mul, ← EReal.coe_neg, EReal.coe_add_top]
  · rw [hs]
    simp only [← EReal.coe_add, ← EReal.coe_mul, ← EReal.coe_neg, ← EReal.coe_sub]
    exact congrArg Real.toEReal (by ring)

/-! ## The precondition -/

instance preFacts' : Cert.Pre_labels_in_range_finite_logits.Facts where
  bcast_S_S16384 := by decide
  reducesTo_S16384_S_d0 := by decide
  h_S_ := by decide
  bcast_S_S16384x1000 := by decide
  reducesTo_S16384x1000_S_d0_1 := by decide

theorem labels_of_pre' {F : FTy → Type} [FloatOps F] (X L y C) (h : Cert.Pre_labels_in_range_finite_logits.fn (F := F) X L y C = fun _ => 1#1) (j) : (y j).toNat < 1000 := by
  dsimp only [Cert.Pre_labels_in_range_finite_logits.fn] at h
  haveI : Subsingleton Cert.Pre_labels_in_range_finite_logits.S_.Idx := ⟨fun a b => funext fun k => k.elim0⟩
  have h' := (IntOp.andi_eq_one.mp (congrFun h (fun k => k.elim0))).1
  have e := Host.reduce_andi_all _ _ _ _ _ h' j
  simp only [andi, cmpi, broadcastInDim, constantI] at e
  exact lt_of_bits _ e

/-- What is below infinity in size is a real. -/
theorem finite_of_lt (a : EReal) (h : FloatOps.cmpf (F := Ideal) (φ := .f32) .olt (FloatOps.absf (F := Ideal) (φ := .f32) a) (Ideal.ofBits .f32 0x7F800000#32) = 1#1) : ∃ r : ℝ, a = r := by
  have t : Ideal.ofBits .f32 0x7F800000#32 = ⊤ := by simp [Ideal.ofBits, Ideal.ieee]
  rw [Ideal.cmpf_def, Ideal.absf_def, t] at h
  induction a with
  | bot => exact absurd h (by simp [Ideal.cmp])
  | coe r => exact ⟨r, rfl⟩
  | top => exact absurd h (by simp [Ideal.cmp])

theorem finite_of_pre' (X L y C) (h : Cert.Pre_labels_in_range_finite_logits.fn (F := Ideal) X L y C = fun _ => 1#1) (i) : ∃ r : ℝ, (L i : EReal) = r := by
  dsimp only [Cert.Pre_labels_in_range_finite_logits.fn] at h
  haveI : Subsingleton Cert.Pre_labels_in_range_finite_logits.S_.Idx := ⟨fun a b => funext fun k => k.elim0⟩
  have h' := (IntOp.andi_eq_one.mp (congrFun h (fun k => k.elim0))).2
  have e := Host.reduce_andi_all _ _ _ _ _ h' i
  exact finite_of_lt _ e

/-! ## The claims under it -/

theorem frame_ideal' : Cert.quiescent_KernelIdeal_pre_labels_in_range_finite_logits := fun m ρ h =>
  (θ_run Cert.KernelIdeal.defs _ _).mono (fun _ r => ⟨fun c => ⟨(r.1 c).1, (r.1 c).2.1, (r.1 c).2.2.1, (r.1 c).2.2.2.1⟩, r.2⟩)
    (run_main (F := Ideal) m ρ fun d j => labels_of_pre' _ _ _ _ (h d) j)

theorem frame_ref' : Cert.quiescent_ReferenceIdeal_pre_labels_in_range_finite_logits := fun m ρ _ =>
  (θ_run Cert.ReferenceIdeal.defs _ _).mono (fun r h => ⟨fun c => ⟨(h c).1, (h c).2.1, (h c).2.2.1, (h c).2.2.2.1⟩, sem_eq_zero_of_no_sems (by decide) r.2⟩)
    (Ref.run_ref (F := Ideal) m ρ)

theorem values_eq : Cert.algebraic_KernelIdeal_ReferenceIdeal_pre_labels_in_range_finite_logits := fun m g m' g' hp ha => by
  have hy := fun d => labels_of_pre' _ _ _ _ (hp d)
  have hL := fun d => finite_of_pre' _ _ _ _ (hp d)
  refine ⟨fun d => total (parts m d) (row m d), ?_, ?_⟩
  · exact (θ_run Cert.KernelIdeal.defs _ _).mono (fun _ r c => ⟨(r.1 c).2.2.2.2, (r.1 c).1, (r.1 c).2.1, (r.1 c).2.2.1, (r.1 c).2.2.2.1⟩)
      (run_main (F := Ideal) m g fun d j => hy d j)
  · refine (θ_run Cert.ReferenceIdeal.defs _ _).mono (fun _ r c => ⟨(r c).2.2.2.2.trans ?_, (r c).1, (r c).2.1, (r c).2.2.1, (r c).2.2.2.1⟩) (Ref.run_ref (F := Ideal) m' g')
    obtain ⟨a0, a1, a2, a3⟩ := ha c
    rw [a0, a1, a2, a3]
    funext j
    exact (Ref.loss_value _ _ _ _ (hy c) j).trans ((results_eq _ _ _ _ (hL c)).symm.trans (kernel_value _ _ _ _ (hy c) (hL c) j).symm)

end Cert.Proof.Center

end
-- ==== Proof.lean ====
/-
  The proof of `Cert.Claim`: the witnesses of the programs' stated facts, then one theorem for each claim.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Values

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Center.preFacts, Center.preFacts',
    Center.frame_kernel, Center.frame_ideal, Center.frame_ideal', Center.frame_ref, Center.frame_ref', trivial, Center.values_eq⟩

end Cert.Proof

end
